-- ==== Defs.lean ====
def Pre_ReferenceIdeal (m : (ℓ : Loc Cert.ReferenceIdeal.nD Cert.ReferenceIdeal.τ Cert.ReferenceIdeal.sig) → Buf (Elt Ideal) ℓ) : Prop :=
  True

def Pre_ReferenceIdeal_rotated_by_0_ReferenceIdeal [hPre_rotated_by_0_ReferenceIdeal : Cert.Pre_rotated_by_0_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_1_ReferenceIdeal [hPre_rotated_by_1_ReferenceIdeal : Cert.Pre_rotated_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_2_ReferenceIdeal [hPre_rotated_by_2_ReferenceIdeal : Cert.Pre_rotated_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_3_ReferenceIdeal [hPre_rotated_by_3_ReferenceIdeal : Cert.Pre_rotated_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_4_ReferenceIdeal [hPre_rotated_by_4_ReferenceIdeal : Cert.Pre_rotated_by_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_5_ReferenceIdeal [hPre_rotated_by_5_ReferenceIdeal : Cert.Pre_rotated_by_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_6_ReferenceIdeal [hPre_rotated_by_6_ReferenceIdeal : Cert.Pre_rotated_by_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_7_ReferenceIdeal [hPre_rotated_by_7_ReferenceIdeal : Cert.Pre_rotated_by_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_8_ReferenceIdeal [hPre_rotated_by_8_ReferenceIdeal : Cert.Pre_rotated_by_8_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_8_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_9_ReferenceIdeal [hPre_rotated_by_9_ReferenceIdeal : Cert.Pre_rotated_by_9_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_9_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_10_ReferenceIdeal [hPre_rotated_by_10_ReferenceIdeal : Cert.Pre_rotated_by_10_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_10_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_11_ReferenceIdeal [hPre_rotated_by_11_ReferenceIdeal : Cert.Pre_rotated_by_11_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_11_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_12_ReferenceIdeal [hPre_rotated_by_12_ReferenceIdeal : Cert.Pre_rotated_by_12_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_12_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_13_ReferenceIdeal [hPre_rotated_by_13_ReferenceIdeal : Cert.Pre_rotated_by_13_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_13_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_14_ReferenceIdeal [hPre_rotated_by_14_ReferenceIdeal : Cert.Pre_rotated_by_14_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_14_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_15_ReferenceIdeal [hPre_rotated_by_15_ReferenceIdeal : Cert.Pre_rotated_by_15_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_15_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_16_ReferenceIdeal [hPre_rotated_by_16_ReferenceIdeal : Cert.Pre_rotated_by_16_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_16_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_17_ReferenceIdeal [hPre_rotated_by_17_ReferenceIdeal : Cert.Pre_rotated_by_17_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_17_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_18_ReferenceIdeal [hPre_rotated_by_18_ReferenceIdeal : Cert.Pre_rotated_by_18_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_18_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_19_ReferenceIdeal [hPre_rotated_by_19_ReferenceIdeal : Cert.Pre_rotated_by_19_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_19_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_20_ReferenceIdeal [hPre_rotated_by_20_ReferenceIdeal : Cert.Pre_rotated_by_20_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_20_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_21_ReferenceIdeal [hPre_rotated_by_21_ReferenceIdeal : Cert.Pre_rotated_by_21_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_21_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_22_ReferenceIdeal [hPre_rotated_by_22_ReferenceIdeal : Cert.Pre_rotated_by_22_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_22_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_23_ReferenceIdeal [hPre_rotated_by_23_ReferenceIdeal : Cert.Pre_rotated_by_23_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_23_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_24_ReferenceIdeal [hPre_rotated_by_24_ReferenceIdeal : Cert.Pre_rotated_by_24_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_24_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_25_ReferenceIdeal [hPre_rotated_by_25_ReferenceIdeal : Cert.Pre_rotated_by_25_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_25_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_26_ReferenceIdeal [hPre_rotated_by_26_ReferenceIdeal : Cert.Pre_rotated_by_26_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_26_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_27_ReferenceIdeal [hPre_rotated_by_27_ReferenceIdeal : Cert.Pre_rotated_by_27_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_27_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_28_ReferenceIdeal [hPre_rotated_by_28_ReferenceIdeal : Cert.Pre_rotated_by_28_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_28_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_29_ReferenceIdeal [hPre_rotated_by_29_ReferenceIdeal : Cert.Pre_rotated_by_29_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_29_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_30_ReferenceIdeal [hPre_rotated_by_30_ReferenceIdeal : Cert.Pre_rotated_by_30_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_30_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rotated_by_31_ReferenceIdeal [hPre_rotated_by_31_ReferenceIdeal : Cert.Pre_rotated_by_31_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotated_by_31_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel [hPre_rotated_by_0_Kernel : Cert.Pre_rotated_by_0_Kernel.Facts] (m : (ℓ : Loc Cert.Kernel.nD Cert.Kernel.τ Cert.Kernel.sig) → Buf (Elt Bits) ℓ) : Prop :=
  ∀ c : Dev Cert.Kernel.nD,
    (Cert.Pre_rotated_by_0_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_1_Kernel [hPre_rotated_by_1_Kernel : Cert.Pre_rotated_by_1_Kernel.Facts] (m : (ℓ : Loc Cert.Kernel.nD Cert.Kernel.τ Cert.Kernel.sig) → Buf (Elt Bits) ℓ) : Prop :=
  ∀ c : Dev Cert.Kernel.nD,
    (Cert.Pre_rotated_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_2_Kernel [hPre_rotated_by_2_Kernel : Cert.Pre_rotated_by_2_Kernel.Facts] (m : (ℓ : Loc Cert.Kernel.nD Cert.Kernel.τ Cert.Kernel.sig) → Buf (Elt Bits) ℓ) : Prop :=
  ∀ c : Dev Cert.Kernel.nD,
    (Cert.Pre_rotated_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_3_Kernel [hPre_rotated_by_3_Kernel : Cert.Pre_rotated_by_3_Kernel.Facts] (m : (ℓ : Loc Cert.Kernel.nD Cert.Kernel.τ Cert.Kernel.sig) → Buf (Elt Bits) ℓ) : Prop :=
  ∀ c : Dev Cert.Kernel.nD,
    (Cert.Pre_rotated_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_4_Kernel [hPre_rotated_by_4_Kernel : Cert.Pre_rotated_by_4_Kernel.Facts] (m : (ℓ : Loc Cert.Kernel.nD Cert.Kernel.τ Cert.Kernel.sig) → Buf (Elt Bits) ℓ) : Prop :=
  ∀ c : Dev Cert.Kernel.nD,
    (Cert.Pre_rotated_by_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_5_Kernel [hPre_rotated_by_5_Kernel : Cert.Pre_rotated_by_5_Kernel.Facts] (m : (ℓ : Loc Cert.Kernel.nD Cert.Kernel.τ Cert.Kernel.sig) → Buf (Elt Bits) ℓ) : Prop :=
  ∀ c : Dev Cert.Kernel.nD,
    (Cert.Pre_rotated_by_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_6_Kernel [hPre_rotated_by_6_Kernel : Cert.Pre_rotated_by_6_Kernel.Facts] (m : (ℓ : Loc Cert.Kernel.nD Cert.Kernel.τ Cert.Kernel.sig) → Buf (Elt Bits) ℓ) : Prop :=
  ∀ c : Dev Cert.Kernel.nD,
    (Cert.Pre_rotated_by_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_7_Kernel [hPre_rotated_by_7_Kernel : Cert.Pre_rotated_by_7_Kernel.Facts] (m : (ℓ : Loc Cert.Kernel.nD Cert.Kernel.τ Cert.Kernel.sig) → Buf (Elt Bits) ℓ) : Prop :=
  ∀ c : Dev Cert.Kernel.nD,
    (Cert.Pre_rotated_by_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_8_Kernel [hPre_rotated_by_8_Kernel : Cert.Pre_rotated_by_8_Kernel.Facts] (m : (ℓ : Loc Cert.Kernel.nD Cert.Kernel.τ Cert.Kernel.sig) → Buf (Elt Bits) ℓ) : Prop :=
  ∀ c : Dev Cert.Kernel.nD,
    (Cert.Pre_rotated_by_8_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_9_Kernel [hPre_rotated_by_9_Kernel : Cert.Pre_rotated_by_9_Kernel.Facts] (m : (ℓ : Loc Cert.Kernel.nD Cert.Kernel.τ Cert.Kernel.sig) → Buf (Elt Bits) ℓ) : Prop :=
  ∀ c : Dev Cert.Kernel.nD,
    (Cert.Pre_rotated_by_9_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_10_Kernel [hPre_rotated_by_10_Kernel : Cert.Pre_rotated_by_10_Kernel.Facts] (m : (ℓ : Loc Cert.Kernel.nD Cert.Kernel.τ Cert.Kernel.sig) → Buf (Elt Bits) ℓ) : Prop :=
  ∀ c : Dev Cert.Kernel.nD,
    (Cert.Pre_rotated_by_10_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_11_Kernel [hPre_rotated_by_11_Kernel : Cert.Pre_rotated_by_11_Kernel.Facts] (m : (ℓ : Loc Cert.Kernel.nD Cert.Kernel.τ Cert.Kernel.sig) → Buf (Elt Bits) ℓ) : Prop :=
  ∀ c : Dev Cert.Kernel.nD,
    (Cert.Pre_rotated_by_11_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_12_Kernel [hPre_rotated_by_12_Kernel : Cert.Pre_rotated_by_12_Kernel.Facts] (m : (ℓ : Loc Cert.Kernel.nD Cert.Kernel.τ Cert.Kernel.sig) → Buf (Elt Bits) ℓ) : Prop :=
  ∀ c : Dev Cert.Kernel.nD,
    (Cert.Pre_rotated_by_12_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_13_Kernel [hPre_rotated_by_13_Kernel : Cert.Pre_rotated_by_13_Kernel.Facts] (m : (ℓ : Loc Cert.Kernel.nD Cert.Kernel.τ Cert.Kernel.sig) → Buf (Elt Bits) ℓ) : Prop :=
  ∀ c : Dev Cert.Kernel.nD,
    (Cert.Pre_rotated_by_13_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_14_Kernel [hPre_rotated_by_14_Kernel : Cert.Pre_rotated_by_14_Kernel.Facts] (m : (ℓ : Loc Cert.Kernel.nD Cert.Kernel.τ Cert.Kernel.sig) → Buf (Elt Bits) ℓ) : Prop :=
  ∀ c : Dev Cert.Kernel.nD,
    (Cert.Pre_rotated_by_14_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_15_Kernel [hPre_rotated_by_15_Kernel : Cert.Pre_rotated_by_15_Kernel.Facts] (m : (ℓ : Loc Cert.Kernel.nD Cert.Kernel.τ Cert.Kernel.sig) → Buf (Elt Bits) ℓ) : Prop :=
  ∀ c : Dev Cert.Kernel.nD,
    (Cert.Pre_rotated_by_15_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_16_Kernel [hPre_rotated_by_16_Kernel : Cert.Pre_rotated_by_16_Kernel.Facts] (m : (ℓ : Loc Cert.Kernel.nD Cert.Kernel.τ Cert.Kernel.sig) → Buf (Elt Bits) ℓ) : Prop :=
  ∀ c : Dev Cert.Kernel.nD,
    (Cert.Pre_rotated_by_16_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_17_Kernel [hPre_rotated_by_17_Kernel : Cert.Pre_rotated_by_17_Kernel.Facts] (m : (ℓ : Loc Cert.Kernel.nD Cert.Kernel.τ Cert.Kernel.sig) → Buf (Elt Bits) ℓ) : Prop :=
  ∀ c : Dev Cert.Kernel.nD,
    (Cert.Pre_rotated_by_17_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_18_Kernel [hPre_rotated_by_18_Kernel : Cert.Pre_rotated_by_18_Kernel.Facts] (m : (ℓ : Loc Cert.Kernel.nD Cert.Kernel.τ Cert.Kernel.sig) → Buf (Elt Bits) ℓ) : Prop :=
  ∀ c : Dev Cert.Kernel.nD,
    (Cert.Pre_rotated_by_18_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_19_Kernel [hPre_rotated_by_19_Kernel : Cert.Pre_rotated_by_19_Kernel.Facts] (m : (ℓ : Loc Cert.Kernel.nD Cert.Kernel.τ Cert.Kernel.sig) → Buf (Elt Bits) ℓ) : Prop :=
  ∀ c : Dev Cert.Kernel.nD,
    (Cert.Pre_rotated_by_19_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_20_Kernel [hPre_rotated_by_20_Kernel : Cert.Pre_rotated_by_20_Kernel.Facts] (m : (ℓ : Loc Cert.Kernel.nD Cert.Kernel.τ Cert.Kernel.sig) → Buf (Elt Bits) ℓ) : Prop :=
  ∀ c : Dev Cert.Kernel.nD,
    (Cert.Pre_rotated_by_20_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_21_Kernel [hPre_rotated_by_21_Kernel : Cert.Pre_rotated_by_21_Kernel.Facts] (m : (ℓ : Loc Cert.Kernel.nD Cert.Kernel.τ Cert.Kernel.sig) → Buf (Elt Bits) ℓ) : Prop :=
  ∀ c : Dev Cert.Kernel.nD,
    (Cert.Pre_rotated_by_21_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_22_Kernel [hPre_rotated_by_22_Kernel : Cert.Pre_rotated_by_22_Kernel.Facts] (m : (ℓ : Loc Cert.Kernel.nD Cert.Kernel.τ Cert.Kernel.sig) → Buf (Elt Bits) ℓ) : Prop :=
  ∀ c : Dev Cert.Kernel.nD,
    (Cert.Pre_rotated_by_22_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_23_Kernel [hPre_rotated_by_23_Kernel : Cert.Pre_rotated_by_23_Kernel.Facts] (m : (ℓ : Loc Cert.Kernel.nD Cert.Kernel.τ Cert.Kernel.sig) → Buf (Elt Bits) ℓ) : Prop :=
  ∀ c : Dev Cert.Kernel.nD,
    (Cert.Pre_rotated_by_23_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_24_Kernel [hPre_rotated_by_24_Kernel : Cert.Pre_rotated_by_24_Kernel.Facts] (m : (ℓ : Loc Cert.Kernel.nD Cert.Kernel.τ Cert.Kernel.sig) → Buf (Elt Bits) ℓ) : Prop :=
  ∀ c : Dev Cert.Kernel.nD,
    (Cert.Pre_rotated_by_24_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_25_Kernel [hPre_rotated_by_25_Kernel : Cert.Pre_rotated_by_25_Kernel.Facts] (m : (ℓ : Loc Cert.Kernel.nD Cert.Kernel.τ Cert.Kernel.sig) → Buf (Elt Bits) ℓ) : Prop :=
  ∀ c : Dev Cert.Kernel.nD,
    (Cert.Pre_rotated_by_25_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_26_Kernel [hPre_rotated_by_26_Kernel : Cert.Pre_rotated_by_26_Kernel.Facts] (m : (ℓ : Loc Cert.Kernel.nD Cert.Kernel.τ Cert.Kernel.sig) → Buf (Elt Bits) ℓ) : Prop :=
  ∀ c : Dev Cert.Kernel.nD,
    (Cert.Pre_rotated_by_26_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_27_Kernel [hPre_rotated_by_27_Kernel : Cert.Pre_rotated_by_27_Kernel.Facts] (m : (ℓ : Loc Cert.Kernel.nD Cert.Kernel.τ Cert.Kernel.sig) → Buf (Elt Bits) ℓ) : Prop :=
  ∀ c : Dev Cert.Kernel.nD,
    (Cert.Pre_rotated_by_27_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_28_Kernel [hPre_rotated_by_28_Kernel : Cert.Pre_rotated_by_28_Kernel.Facts] (m : (ℓ : Loc Cert.Kernel.nD Cert.Kernel.τ Cert.Kernel.sig) → Buf (Elt Bits) ℓ) : Prop :=
  ∀ c : Dev Cert.Kernel.nD,
    (Cert.Pre_rotated_by_28_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_29_Kernel [hPre_rotated_by_29_Kernel : Cert.Pre_rotated_by_29_Kernel.Facts] (m : (ℓ : Loc Cert.Kernel.nD Cert.Kernel.τ Cert.Kernel.sig) → Buf (Elt Bits) ℓ) : Prop :=
  ∀ c : Dev Cert.Kernel.nD,
    (Cert.Pre_rotated_by_29_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_30_Kernel [hPre_rotated_by_30_Kernel : Cert.Pre_rotated_by_30_Kernel.Facts] (m : (ℓ : Loc Cert.Kernel.nD Cert.Kernel.τ Cert.Kernel.sig) → Buf (Elt Bits) ℓ) : Prop :=
  ∀ c : Dev Cert.Kernel.nD,
    (Cert.Pre_rotated_by_30_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rotated_by_31_Kernel [hPre_rotated_by_31_Kernel : Cert.Pre_rotated_by_31_Kernel.Facts] (m : (ℓ : Loc Cert.Kernel.nD Cert.Kernel.τ Cert.Kernel.sig) → Buf (Elt Bits) ℓ) : Prop :=
  ∀ c : Dev Cert.Kernel.nD,
    (Cert.Pre_rotated_by_31_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rotated_by_0_Kernel : Cert.Pre_rotated_by_0_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_0_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_1_Kernel [hPre_rotated_by_1_Kernel : Cert.Pre_rotated_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_2_Kernel [hPre_rotated_by_2_Kernel : Cert.Pre_rotated_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_3_Kernel [hPre_rotated_by_3_Kernel : Cert.Pre_rotated_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_4_Kernel [hPre_rotated_by_4_Kernel : Cert.Pre_rotated_by_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_5_Kernel [hPre_rotated_by_5_Kernel : Cert.Pre_rotated_by_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_6_Kernel [hPre_rotated_by_6_Kernel : Cert.Pre_rotated_by_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_7_Kernel [hPre_rotated_by_7_Kernel : Cert.Pre_rotated_by_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_8_Kernel [hPre_rotated_by_8_Kernel : Cert.Pre_rotated_by_8_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_8_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_9_Kernel [hPre_rotated_by_9_Kernel : Cert.Pre_rotated_by_9_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_9_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_10_Kernel [hPre_rotated_by_10_Kernel : Cert.Pre_rotated_by_10_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_10_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_11_Kernel [hPre_rotated_by_11_Kernel : Cert.Pre_rotated_by_11_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_11_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_12_Kernel [hPre_rotated_by_12_Kernel : Cert.Pre_rotated_by_12_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_12_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_13_Kernel [hPre_rotated_by_13_Kernel : Cert.Pre_rotated_by_13_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_13_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_14_Kernel [hPre_rotated_by_14_Kernel : Cert.Pre_rotated_by_14_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_14_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_15_Kernel [hPre_rotated_by_15_Kernel : Cert.Pre_rotated_by_15_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_15_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_16_Kernel [hPre_rotated_by_16_Kernel : Cert.Pre_rotated_by_16_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_16_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_17_Kernel [hPre_rotated_by_17_Kernel : Cert.Pre_rotated_by_17_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_17_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_18_Kernel [hPre_rotated_by_18_Kernel : Cert.Pre_rotated_by_18_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_18_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_19_Kernel [hPre_rotated_by_19_Kernel : Cert.Pre_rotated_by_19_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_19_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_20_Kernel [hPre_rotated_by_20_Kernel : Cert.Pre_rotated_by_20_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_20_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_21_Kernel [hPre_rotated_by_21_Kernel : Cert.Pre_rotated_by_21_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_21_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_22_Kernel [hPre_rotated_by_22_Kernel : Cert.Pre_rotated_by_22_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_22_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_23_Kernel [hPre_rotated_by_23_Kernel : Cert.Pre_rotated_by_23_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_23_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_24_Kernel [hPre_rotated_by_24_Kernel : Cert.Pre_rotated_by_24_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_24_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_25_Kernel [hPre_rotated_by_25_Kernel : Cert.Pre_rotated_by_25_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_25_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_26_Kernel [hPre_rotated_by_26_Kernel : Cert.Pre_rotated_by_26_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_26_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_27_Kernel [hPre_rotated_by_27_Kernel : Cert.Pre_rotated_by_27_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_27_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_28_Kernel [hPre_rotated_by_28_Kernel : Cert.Pre_rotated_by_28_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_28_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_29_Kernel [hPre_rotated_by_29_Kernel : Cert.Pre_rotated_by_29_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_29_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_30_Kernel [hPre_rotated_by_30_Kernel : Cert.Pre_rotated_by_30_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_30_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rotated_by_31_Kernel [hPre_rotated_by_31_Kernel : Cert.Pre_rotated_by_31_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rotated_by_31_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_0_ReferenceIdeal [hReferenceIdeal : Cert.ReferenceIdeal.Facts] [hPre_rotated_by_0_ReferenceIdeal : Cert.Pre_rotated_by_0_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_0_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_1_ReferenceIdeal [hReferenceIdeal : Cert.ReferenceIdeal.Facts] [hPre_rotated_by_1_ReferenceIdeal : Cert.Pre_rotated_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_2_ReferenceIdeal [hReferenceIdeal : Cert.ReferenceIdeal.Facts] [hPre_rotated_by_2_ReferenceIdeal : Cert.Pre_rotated_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_3_ReferenceIdeal [hReferenceIdeal : Cert.ReferenceIdeal.Facts] [hPre_rotated_by_3_ReferenceIdeal : Cert.Pre_rotated_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_4_ReferenceIdeal [hReferenceIdeal : Cert.ReferenceIdeal.Facts] [hPre_rotated_by_4_ReferenceIdeal : Cert.Pre_rotated_by_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_5_ReferenceIdeal [hReferenceIdeal : Cert.ReferenceIdeal.Facts] [hPre_rotated_by_5_ReferenceIdeal : Cert.Pre_rotated_by_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_6_ReferenceIdeal [hReferenceIdeal : Cert.ReferenceIdeal.Facts] [hPre_rotated_by_6_ReferenceIdeal : Cert.Pre_rotated_by_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_7_ReferenceIdeal [hReferenceIdeal : Cert.ReferenceIdeal.Facts] [hPre_rotated_by_7_ReferenceIdeal : Cert.Pre_rotated_by_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_8_ReferenceIdeal [hReferenceIdeal : Cert.ReferenceIdeal.Facts] [hPre_rotated_by_8_ReferenceIdeal : Cert.Pre_rotated_by_8_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_8_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_9_ReferenceIdeal [hReferenceIdeal : Cert.ReferenceIdeal.Facts] [hPre_rotated_by_9_ReferenceIdeal : Cert.Pre_rotated_by_9_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_9_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_10_ReferenceIdeal [hReferenceIdeal : Cert.ReferenceIdeal.Facts] [hPre_rotated_by_10_ReferenceIdeal : Cert.Pre_rotated_by_10_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_10_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_11_ReferenceIdeal [hReferenceIdeal : Cert.ReferenceIdeal.Facts] [hPre_rotated_by_11_ReferenceIdeal : Cert.Pre_rotated_by_11_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_11_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_12_ReferenceIdeal [hReferenceIdeal : Cert.ReferenceIdeal.Facts] [hPre_rotated_by_12_ReferenceIdeal : Cert.Pre_rotated_by_12_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_12_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_13_ReferenceIdeal [hReferenceIdeal : Cert.ReferenceIdeal.Facts] [hPre_rotated_by_13_ReferenceIdeal : Cert.Pre_rotated_by_13_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_13_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_14_ReferenceIdeal [hReferenceIdeal : Cert.ReferenceIdeal.Facts] [hPre_rotated_by_14_ReferenceIdeal : Cert.Pre_rotated_by_14_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_14_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_15_ReferenceIdeal [hReferenceIdeal : Cert.ReferenceIdeal.Facts] [hPre_rotated_by_15_ReferenceIdeal : Cert.Pre_rotated_by_15_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_15_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_16_ReferenceIdeal [hReferenceIdeal : Cert.ReferenceIdeal.Facts] [hPre_rotated_by_16_ReferenceIdeal : Cert.Pre_rotated_by_16_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_16_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_17_ReferenceIdeal [hReferenceIdeal : Cert.ReferenceIdeal.Facts] [hPre_rotated_by_17_ReferenceIdeal : Cert.Pre_rotated_by_17_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_17_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_18_ReferenceIdeal [hReferenceIdeal : Cert.ReferenceIdeal.Facts] [hPre_rotated_by_18_ReferenceIdeal : Cert.Pre_rotated_by_18_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_18_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_19_ReferenceIdeal [hReferenceIdeal : Cert.ReferenceIdeal.Facts] [hPre_rotated_by_19_ReferenceIdeal : Cert.Pre_rotated_by_19_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_19_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_20_ReferenceIdeal [hReferenceIdeal : Cert.ReferenceIdeal.Facts] [hPre_rotated_by_20_ReferenceIdeal : Cert.Pre_rotated_by_20_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_20_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_21_ReferenceIdeal [hReferenceIdeal : Cert.ReferenceIdeal.Facts] [hPre_rotated_by_21_ReferenceIdeal : Cert.Pre_rotated_by_21_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_21_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_22_ReferenceIdeal [hReferenceIdeal : Cert.ReferenceIdeal.Facts] [hPre_rotated_by_22_ReferenceIdeal : Cert.Pre_rotated_by_22_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_22_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_23_ReferenceIdeal [hReferenceIdeal : Cert.ReferenceIdeal.Facts] [hPre_rotated_by_23_ReferenceIdeal : Cert.Pre_rotated_by_23_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_23_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_24_ReferenceIdeal [hReferenceIdeal : Cert.ReferenceIdeal.Facts] [hPre_rotated_by_24_ReferenceIdeal : Cert.Pre_rotated_by_24_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_24_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_25_ReferenceIdeal [hReferenceIdeal : Cert.ReferenceIdeal.Facts] [hPre_rotated_by_25_ReferenceIdeal : Cert.Pre_rotated_by_25_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_25_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_26_ReferenceIdeal [hReferenceIdeal : Cert.ReferenceIdeal.Facts] [hPre_rotated_by_26_ReferenceIdeal : Cert.Pre_rotated_by_26_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_26_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_27_ReferenceIdeal [hReferenceIdeal : Cert.ReferenceIdeal.Facts] [hPre_rotated_by_27_ReferenceIdeal : Cert.Pre_rotated_by_27_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_27_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_28_ReferenceIdeal [hReferenceIdeal : Cert.ReferenceIdeal.Facts] [hPre_rotated_by_28_ReferenceIdeal : Cert.Pre_rotated_by_28_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_28_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_29_ReferenceIdeal [hReferenceIdeal : Cert.ReferenceIdeal.Facts] [hPre_rotated_by_29_ReferenceIdeal : Cert.Pre_rotated_by_29_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_29_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_30_ReferenceIdeal [hReferenceIdeal : Cert.ReferenceIdeal.Facts] [hPre_rotated_by_30_ReferenceIdeal : Cert.Pre_rotated_by_30_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_30_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotated_by_31_ReferenceIdeal [hReferenceIdeal : Cert.ReferenceIdeal.Facts] [hPre_rotated_by_31_ReferenceIdeal : Cert.Pre_rotated_by_31_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotated_by_31_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] [hPre_rotated_by_0_Kernel : Cert.Pre_rotated_by_0_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_1_Kernel [hKernel : Cert.Kernel.Facts] [hPre_rotated_by_1_Kernel : Cert.Pre_rotated_by_1_Kernel.Facts] : Prop :=
  ∀ (m : (ℓ : Loc Cert.Kernel.nD Cert.Kernel.τ Cert.Kernel.sig) → Buf (Elt Bits) ℓ) (g : Dev Cert.Kernel.nD → PrngReg), Pre_Kernel_rotated_by_1_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_2_Kernel [hKernel : Cert.Kernel.Facts] [hPre_rotated_by_2_Kernel : Cert.Pre_rotated_by_2_Kernel.Facts] : Prop :=
  ∀ (m : (ℓ : Loc Cert.Kernel.nD Cert.Kernel.τ Cert.Kernel.sig) → Buf (Elt Bits) ℓ) (g : Dev Cert.Kernel.nD → PrngReg), Pre_Kernel_rotated_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_3_Kernel [hKernel : Cert.Kernel.Facts] [hPre_rotated_by_3_Kernel : Cert.Pre_rotated_by_3_Kernel.Facts] : Prop :=
  ∀ (m : (ℓ : Loc Cert.Kernel.nD Cert.Kernel.τ Cert.Kernel.sig) → Buf (Elt Bits) ℓ) (g : Dev Cert.Kernel.nD → PrngReg), Pre_Kernel_rotated_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_4_Kernel [hKernel : Cert.Kernel.Facts] [hPre_rotated_by_4_Kernel : Cert.Pre_rotated_by_4_Kernel.Facts] : Prop :=
  ∀ (m : (ℓ : Loc Cert.Kernel.nD Cert.Kernel.τ Cert.Kernel.sig) → Buf (Elt Bits) ℓ) (g : Dev Cert.Kernel.nD → PrngReg), Pre_Kernel_rotated_by_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_5_Kernel [hKernel : Cert.Kernel.Facts] [hPre_rotated_by_5_Kernel : Cert.Pre_rotated_by_5_Kernel.Facts] : Prop :=
  ∀ (m : (ℓ : Loc Cert.Kernel.nD Cert.Kernel.τ Cert.Kernel.sig) → Buf (Elt Bits) ℓ) (g : Dev Cert.Kernel.nD → PrngReg), Pre_Kernel_rotated_by_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_6_Kernel [hKernel : Cert.Kernel.Facts] [hPre_rotated_by_6_Kernel : Cert.Pre_rotated_by_6_Kernel.Facts] : Prop :=
  ∀ (m : (ℓ : Loc Cert.Kernel.nD Cert.Kernel.τ Cert.Kernel.sig) → Buf (Elt Bits) ℓ) (g : Dev Cert.Kernel.nD → PrngReg), Pre_Kernel_rotated_by_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_7_Kernel [hKernel : Cert.Kernel.Facts] [hPre_rotated_by_7_Kernel : Cert.Pre_rotated_by_7_Kernel.Facts] : Prop :=
  ∀ (m : (ℓ : Loc Cert.Kernel.nD Cert.Kernel.τ Cert.Kernel.sig) → Buf (Elt Bits) ℓ) (g : Dev Cert.Kernel.nD → PrngReg), Pre_Kernel_rotated_by_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_8_Kernel [hKernel : Cert.Kernel.Facts] [hPre_rotated_by_8_Kernel : Cert.Pre_rotated_by_8_Kernel.Facts] : Prop :=
  ∀ (m : (ℓ : Loc Cert.Kernel.nD Cert.Kernel.τ Cert.Kernel.sig) → Buf (Elt Bits) ℓ) (g : Dev Cert.Kernel.nD → PrngReg), Pre_Kernel_rotated_by_8_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_9_Kernel [hKernel : Cert.Kernel.Facts] [hPre_rotated_by_9_Kernel : Cert.Pre_rotated_by_9_Kernel.Facts] : Prop :=
  ∀ (m : (ℓ : Loc Cert.Kernel.nD Cert.Kernel.τ Cert.Kernel.sig) → Buf (Elt Bits) ℓ) (g : Dev Cert.Kernel.nD → PrngReg), Pre_Kernel_rotated_by_9_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_10_Kernel [hKernel : Cert.Kernel.Facts] [hPre_rotated_by_10_Kernel : Cert.Pre_rotated_by_10_Kernel.Facts] : Prop :=
  ∀ (m : (ℓ : Loc Cert.Kernel.nD Cert.Kernel.τ Cert.Kernel.sig) → Buf (Elt Bits) ℓ) (g : Dev Cert.Kernel.nD → PrngReg), Pre_Kernel_rotated_by_10_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_11_Kernel [hKernel : Cert.Kernel.Facts] [hPre_rotated_by_11_Kernel : Cert.Pre_rotated_by_11_Kernel.Facts] : Prop :=
  ∀ (m : (ℓ : Loc Cert.Kernel.nD Cert.Kernel.τ Cert.Kernel.sig) → Buf (Elt Bits) ℓ) (g : Dev Cert.Kernel.nD → PrngReg), Pre_Kernel_rotated_by_11_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_12_Kernel [hKernel : Cert.Kernel.Facts] [hPre_rotated_by_12_Kernel : Cert.Pre_rotated_by_12_Kernel.Facts] : Prop :=
  ∀ (m : (ℓ : Loc Cert.Kernel.nD Cert.Kernel.τ Cert.Kernel.sig) → Buf (Elt Bits) ℓ) (g : Dev Cert.Kernel.nD → PrngReg), Pre_Kernel_rotated_by_12_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_13_Kernel [hKernel : Cert.Kernel.Facts] [hPre_rotated_by_13_Kernel : Cert.Pre_rotated_by_13_Kernel.Facts] : Prop :=
  ∀ (m : (ℓ : Loc Cert.Kernel.nD Cert.Kernel.τ Cert.Kernel.sig) → Buf (Elt Bits) ℓ) (g : Dev Cert.Kernel.nD → PrngReg), Pre_Kernel_rotated_by_13_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_14_Kernel [hKernel : Cert.Kernel.Facts] [hPre_rotated_by_14_Kernel : Cert.Pre_rotated_by_14_Kernel.Facts] : Prop :=
  ∀ (m : (ℓ : Loc Cert.Kernel.nD Cert.Kernel.τ Cert.Kernel.sig) → Buf (Elt Bits) ℓ) (g : Dev Cert.Kernel.nD → PrngReg), Pre_Kernel_rotated_by_14_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_15_Kernel [hKernel : Cert.Kernel.Facts] [hPre_rotated_by_15_Kernel : Cert.Pre_rotated_by_15_Kernel.Facts] : Prop :=
  ∀ (m : (ℓ : Loc Cert.Kernel.nD Cert.Kernel.τ Cert.Kernel.sig) → Buf (Elt Bits) ℓ) (g : Dev Cert.Kernel.nD → PrngReg), Pre_Kernel_rotated_by_15_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_16_Kernel [hKernel : Cert.Kernel.Facts] [hPre_rotated_by_16_Kernel : Cert.Pre_rotated_by_16_Kernel.Facts] : Prop :=
  ∀ (m : (ℓ : Loc Cert.Kernel.nD Cert.Kernel.τ Cert.Kernel.sig) → Buf (Elt Bits) ℓ) (g : Dev Cert.Kernel.nD → PrngReg), Pre_Kernel_rotated_by_16_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_17_Kernel [hKernel : Cert.Kernel.Facts] [hPre_rotated_by_17_Kernel : Cert.Pre_rotated_by_17_Kernel.Facts] : Prop :=
  ∀ (m : (ℓ : Loc Cert.Kernel.nD Cert.Kernel.τ Cert.Kernel.sig) → Buf (Elt Bits) ℓ) (g : Dev Cert.Kernel.nD → PrngReg), Pre_Kernel_rotated_by_17_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_18_Kernel [hKernel : Cert.Kernel.Facts] [hPre_rotated_by_18_Kernel : Cert.Pre_rotated_by_18_Kernel.Facts] : Prop :=
  ∀ (m : (ℓ : Loc Cert.Kernel.nD Cert.Kernel.τ Cert.Kernel.sig) → Buf (Elt Bits) ℓ) (g : Dev Cert.Kernel.nD → PrngReg), Pre_Kernel_rotated_by_18_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_19_Kernel [hKernel : Cert.Kernel.Facts] [hPre_rotated_by_19_Kernel : Cert.Pre_rotated_by_19_Kernel.Facts] : Prop :=
  ∀ (m : (ℓ : Loc Cert.Kernel.nD Cert.Kernel.τ Cert.Kernel.sig) → Buf (Elt Bits) ℓ) (g : Dev Cert.Kernel.nD → PrngReg), Pre_Kernel_rotated_by_19_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_20_Kernel [hKernel : Cert.Kernel.Facts] [hPre_rotated_by_20_Kernel : Cert.Pre_rotated_by_20_Kernel.Facts] : Prop :=
  ∀ (m : (ℓ : Loc Cert.Kernel.nD Cert.Kernel.τ Cert.Kernel.sig) → Buf (Elt Bits) ℓ) (g : Dev Cert.Kernel.nD → PrngReg), Pre_Kernel_rotated_by_20_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_21_Kernel [hKernel : Cert.Kernel.Facts] [hPre_rotated_by_21_Kernel : Cert.Pre_rotated_by_21_Kernel.Facts] : Prop :=
  ∀ (m : (ℓ : Loc Cert.Kernel.nD Cert.Kernel.τ Cert.Kernel.sig) → Buf (Elt Bits) ℓ) (g : Dev Cert.Kernel.nD → PrngReg), Pre_Kernel_rotated_by_21_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_22_Kernel [hKernel : Cert.Kernel.Facts] [hPre_rotated_by_22_Kernel : Cert.Pre_rotated_by_22_Kernel.Facts] : Prop :=
  ∀ (m : (ℓ : Loc Cert.Kernel.nD Cert.Kernel.τ Cert.Kernel.sig) → Buf (Elt Bits) ℓ) (g : Dev Cert.Kernel.nD → PrngReg), Pre_Kernel_rotated_by_22_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_23_Kernel [hKernel : Cert.Kernel.Facts] [hPre_rotated_by_23_Kernel : Cert.Pre_rotated_by_23_Kernel.Facts] : Prop :=
  ∀ (m : (ℓ : Loc Cert.Kernel.nD Cert.Kernel.τ Cert.Kernel.sig) → Buf (Elt Bits) ℓ) (g : Dev Cert.Kernel.nD → PrngReg), Pre_Kernel_rotated_by_23_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_24_Kernel [hKernel : Cert.Kernel.Facts] [hPre_rotated_by_24_Kernel : Cert.Pre_rotated_by_24_Kernel.Facts] : Prop :=
  ∀ (m : (ℓ : Loc Cert.Kernel.nD Cert.Kernel.τ Cert.Kernel.sig) → Buf (Elt Bits) ℓ) (g : Dev Cert.Kernel.nD → PrngReg), Pre_Kernel_rotated_by_24_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_25_Kernel [hKernel : Cert.Kernel.Facts] [hPre_rotated_by_25_Kernel : Cert.Pre_rotated_by_25_Kernel.Facts] : Prop :=
  ∀ (m : (ℓ : Loc Cert.Kernel.nD Cert.Kernel.τ Cert.Kernel.sig) → Buf (Elt Bits) ℓ) (g : Dev Cert.Kernel.nD → PrngReg), Pre_Kernel_rotated_by_25_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_26_Kernel [hKernel : Cert.Kernel.Facts] [hPre_rotated_by_26_Kernel : Cert.Pre_rotated_by_26_Kernel.Facts] : Prop :=
  ∀ (m : (ℓ : Loc Cert.Kernel.nD Cert.Kernel.τ Cert.Kernel.sig) → Buf (Elt Bits) ℓ) (g : Dev Cert.Kernel.nD → PrngReg), Pre_Kernel_rotated_by_26_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_27_Kernel [hKernel : Cert.Kernel.Facts] [hPre_rotated_by_27_Kernel : Cert.Pre_rotated_by_27_Kernel.Facts] : Prop :=
  ∀ (m : (ℓ : Loc Cert.Kernel.nD Cert.Kernel.τ Cert.Kernel.sig) → Buf (Elt Bits) ℓ) (g : Dev Cert.Kernel.nD → PrngReg), Pre_Kernel_rotated_by_27_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_28_Kernel [hKernel : Cert.Kernel.Facts] [hPre_rotated_by_28_Kernel : Cert.Pre_rotated_by_28_Kernel.Facts] : Prop :=
  ∀ (m : (ℓ : Loc Cert.Kernel.nD Cert.Kernel.τ Cert.Kernel.sig) → Buf (Elt Bits) ℓ) (g : Dev Cert.Kernel.nD → PrngReg), Pre_Kernel_rotated_by_28_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_29_Kernel [hKernel : Cert.Kernel.Facts] [hPre_rotated_by_29_Kernel : Cert.Pre_rotated_by_29_Kernel.Facts] : Prop :=
  ∀ (m : (ℓ : Loc Cert.Kernel.nD Cert.Kernel.τ Cert.Kernel.sig) → Buf (Elt Bits) ℓ) (g : Dev Cert.Kernel.nD → PrngReg), Pre_Kernel_rotated_by_29_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_30_Kernel [hKernel : Cert.Kernel.Facts] [hPre_rotated_by_30_Kernel : Cert.Pre_rotated_by_30_Kernel.Facts] : Prop :=
  ∀ (m : (ℓ : Loc Cert.Kernel.nD Cert.Kernel.τ Cert.Kernel.sig) → Buf (Elt Bits) ℓ) (g : Dev Cert.Kernel.nD → PrngReg), Pre_Kernel_rotated_by_30_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rotated_by_31_Kernel [hKernel : Cert.Kernel.Facts] [hPre_rotated_by_31_Kernel : Cert.Pre_rotated_by_31_Kernel.Facts] : Prop :=
  ∀ (m : (ℓ : Loc Cert.Kernel.nD Cert.Kernel.τ Cert.Kernel.sig) → Buf (Elt Bits) ℓ) (g : Dev Cert.Kernel.nD → PrngReg), Pre_Kernel_rotated_by_31_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rotated_by_0_Kernel : Cert.Pre_rotated_by_0_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_1_Kernel [hKernelIdeal : Cert.KernelIdeal.Facts] [hPre_rotated_by_1_Kernel : Cert.Pre_rotated_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_1_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_2_Kernel [hKernelIdeal : Cert.KernelIdeal.Facts] [hPre_rotated_by_2_Kernel : Cert.Pre_rotated_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_3_Kernel [hKernelIdeal : Cert.KernelIdeal.Facts] [hPre_rotated_by_3_Kernel : Cert.Pre_rotated_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_4_Kernel [hKernelIdeal : Cert.KernelIdeal.Facts] [hPre_rotated_by_4_Kernel : Cert.Pre_rotated_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_5_Kernel [hKernelIdeal : Cert.KernelIdeal.Facts] [hPre_rotated_by_5_Kernel : Cert.Pre_rotated_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_6_Kernel [hKernelIdeal : Cert.KernelIdeal.Facts] [hPre_rotated_by_6_Kernel : Cert.Pre_rotated_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_7_Kernel [hKernelIdeal : Cert.KernelIdeal.Facts] [hPre_rotated_by_7_Kernel : Cert.Pre_rotated_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_8_Kernel [hKernelIdeal : Cert.KernelIdeal.Facts] [hPre_rotated_by_8_Kernel : Cert.Pre_rotated_by_8_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_8_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_9_Kernel [hKernelIdeal : Cert.KernelIdeal.Facts] [hPre_rotated_by_9_Kernel : Cert.Pre_rotated_by_9_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_9_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_10_Kernel [hKernelIdeal : Cert.KernelIdeal.Facts] [hPre_rotated_by_10_Kernel : Cert.Pre_rotated_by_10_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_10_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_11_Kernel [hKernelIdeal : Cert.KernelIdeal.Facts] [hPre_rotated_by_11_Kernel : Cert.Pre_rotated_by_11_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_11_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_12_Kernel [hKernelIdeal : Cert.KernelIdeal.Facts] [hPre_rotated_by_12_Kernel : Cert.Pre_rotated_by_12_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_12_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_13_Kernel [hKernelIdeal : Cert.KernelIdeal.Facts] [hPre_rotated_by_13_Kernel : Cert.Pre_rotated_by_13_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_13_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_14_Kernel [hKernelIdeal : Cert.KernelIdeal.Facts] [hPre_rotated_by_14_Kernel : Cert.Pre_rotated_by_14_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_14_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_15_Kernel [hKernelIdeal : Cert.KernelIdeal.Facts] [hPre_rotated_by_15_Kernel : Cert.Pre_rotated_by_15_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_15_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_16_Kernel [hKernelIdeal : Cert.KernelIdeal.Facts] [hPre_rotated_by_16_Kernel : Cert.Pre_rotated_by_16_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_16_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_17_Kernel [hKernelIdeal : Cert.KernelIdeal.Facts] [hPre_rotated_by_17_Kernel : Cert.Pre_rotated_by_17_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_17_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_18_Kernel [hKernelIdeal : Cert.KernelIdeal.Facts] [hPre_rotated_by_18_Kernel : Cert.Pre_rotated_by_18_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_18_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_19_Kernel [hKernelIdeal : Cert.KernelIdeal.Facts] [hPre_rotated_by_19_Kernel : Cert.Pre_rotated_by_19_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_19_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_20_Kernel [hKernelIdeal : Cert.KernelIdeal.Facts] [hPre_rotated_by_20_Kernel : Cert.Pre_rotated_by_20_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_20_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_21_Kernel [hKernelIdeal : Cert.KernelIdeal.Facts] [hPre_rotated_by_21_Kernel : Cert.Pre_rotated_by_21_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_21_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_22_Kernel [hKernelIdeal : Cert.KernelIdeal.Facts] [hPre_rotated_by_22_Kernel : Cert.Pre_rotated_by_22_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_22_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_23_Kernel [hKernelIdeal : Cert.KernelIdeal.Facts] [hPre_rotated_by_23_Kernel : Cert.Pre_rotated_by_23_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_23_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_24_Kernel [hKernelIdeal : Cert.KernelIdeal.Facts] [hPre_rotated_by_24_Kernel : Cert.Pre_rotated_by_24_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_24_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_25_Kernel [hKernelIdeal : Cert.KernelIdeal.Facts] [hPre_rotated_by_25_Kernel : Cert.Pre_rotated_by_25_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_25_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_26_Kernel [hKernelIdeal : Cert.KernelIdeal.Facts] [hPre_rotated_by_26_Kernel : Cert.Pre_rotated_by_26_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_26_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_27_Kernel [hKernelIdeal : Cert.KernelIdeal.Facts] [hPre_rotated_by_27_Kernel : Cert.Pre_rotated_by_27_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_27_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_28_Kernel [hKernelIdeal : Cert.KernelIdeal.Facts] [hPre_rotated_by_28_Kernel : Cert.Pre_rotated_by_28_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_28_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_29_Kernel [hKernelIdeal : Cert.KernelIdeal.Facts] [hPre_rotated_by_29_Kernel : Cert.Pre_rotated_by_29_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_29_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_30_Kernel [hKernelIdeal : Cert.KernelIdeal.Facts] [hPre_rotated_by_30_Kernel : Cert.Pre_rotated_by_30_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_30_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotated_by_31_Kernel [hKernelIdeal : Cert.KernelIdeal.Facts] [hPre_rotated_by_31_Kernel : Cert.Pre_rotated_by_31_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotated_by_31_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rotated_by_0_Kernel : Cert.Pre_rotated_by_0_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_1_Kernel [hKernelIdeal : Cert.KernelIdeal.Facts] [hReferenceIdeal : Cert.ReferenceIdeal.Facts] [hPre_rotated_by_1_Kernel : Cert.Pre_rotated_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_1_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_2_Kernel [hKernelIdeal : Cert.KernelIdeal.Facts] [hReferenceIdeal : Cert.ReferenceIdeal.Facts] [hPre_rotated_by_2_Kernel : Cert.Pre_rotated_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_2_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_3_Kernel [hKernelIdeal : Cert.KernelIdeal.Facts] [hReferenceIdeal : Cert.ReferenceIdeal.Facts] [hPre_rotated_by_3_Kernel : Cert.Pre_rotated_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_3_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_4_Kernel [hKernelIdeal : Cert.KernelIdeal.Facts] [hReferenceIdeal : Cert.ReferenceIdeal.Facts] [hPre_rotated_by_4_Kernel : Cert.Pre_rotated_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_4_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_5_Kernel [hKernelIdeal : Cert.KernelIdeal.Facts] [hReferenceIdeal : Cert.ReferenceIdeal.Facts] [hPre_rotated_by_5_Kernel : Cert.Pre_rotated_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_5_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_6_Kernel [hKernelIdeal : Cert.KernelIdeal.Facts] [hReferenceIdeal : Cert.ReferenceIdeal.Facts] [hPre_rotated_by_6_Kernel : Cert.Pre_rotated_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_6_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_7_Kernel [hKernelIdeal : Cert.KernelIdeal.Facts] [hReferenceIdeal : Cert.ReferenceIdeal.Facts] [hPre_rotated_by_7_Kernel : Cert.Pre_rotated_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_7_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_8_Kernel [hKernelIdeal : Cert.KernelIdeal.Facts] [hReferenceIdeal : Cert.ReferenceIdeal.Facts] [hPre_rotated_by_8_Kernel : Cert.Pre_rotated_by_8_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_8_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_9_Kernel [hKernelIdeal : Cert.KernelIdeal.Facts] [hReferenceIdeal : Cert.ReferenceIdeal.Facts] [hPre_rotated_by_9_Kernel : Cert.Pre_rotated_by_9_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_9_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_10_Kernel [hKernelIdeal : Cert.KernelIdeal.Facts] [hReferenceIdeal : Cert.ReferenceIdeal.Facts] [hPre_rotated_by_10_Kernel : Cert.Pre_rotated_by_10_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_10_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_11_Kernel [hKernelIdeal : Cert.KernelIdeal.Facts] [hReferenceIdeal : Cert.ReferenceIdeal.Facts] [hPre_rotated_by_11_Kernel : Cert.Pre_rotated_by_11_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_11_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_12_Kernel [hKernelIdeal : Cert.KernelIdeal.Facts] [hReferenceIdeal : Cert.ReferenceIdeal.Facts] [hPre_rotated_by_12_Kernel : Cert.Pre_rotated_by_12_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_12_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_13_Kernel [hKernelIdeal : Cert.KernelIdeal.Facts] [hReferenceIdeal : Cert.ReferenceIdeal.Facts] [hPre_rotated_by_13_Kernel : Cert.Pre_rotated_by_13_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_13_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_14_Kernel [hKernelIdeal : Cert.KernelIdeal.Facts] [hReferenceIdeal : Cert.ReferenceIdeal.Facts] [hPre_rotated_by_14_Kernel : Cert.Pre_rotated_by_14_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_14_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_15_Kernel [hKernelIdeal : Cert.KernelIdeal.Facts] [hReferenceIdeal : Cert.ReferenceIdeal.Facts] [hPre_rotated_by_15_Kernel : Cert.Pre_rotated_by_15_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_15_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_16_Kernel [hKernelIdeal : Cert.KernelIdeal.Facts] [hReferenceIdeal : Cert.ReferenceIdeal.Facts] [hPre_rotated_by_16_Kernel : Cert.Pre_rotated_by_16_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_16_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_17_Kernel [hKernelIdeal : Cert.KernelIdeal.Facts] [hReferenceIdeal : Cert.ReferenceIdeal.Facts] [hPre_rotated_by_17_Kernel : Cert.Pre_rotated_by_17_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_17_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_18_Kernel [hKernelIdeal : Cert.KernelIdeal.Facts] [hReferenceIdeal : Cert.ReferenceIdeal.Facts] [hPre_rotated_by_18_Kernel : Cert.Pre_rotated_by_18_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_18_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_19_Kernel [hKernelIdeal : Cert.KernelIdeal.Facts] [hReferenceIdeal : Cert.ReferenceIdeal.Facts] [hPre_rotated_by_19_Kernel : Cert.Pre_rotated_by_19_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_19_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_20_Kernel [hKernelIdeal : Cert.KernelIdeal.Facts] [hReferenceIdeal : Cert.ReferenceIdeal.Facts] [hPre_rotated_by_20_Kernel : Cert.Pre_rotated_by_20_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_20_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_21_Kernel [hKernelIdeal : Cert.KernelIdeal.Facts] [hReferenceIdeal : Cert.ReferenceIdeal.Facts] [hPre_rotated_by_21_Kernel : Cert.Pre_rotated_by_21_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_21_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_22_Kernel [hKernelIdeal : Cert.KernelIdeal.Facts] [hReferenceIdeal : Cert.ReferenceIdeal.Facts] [hPre_rotated_by_22_Kernel : Cert.Pre_rotated_by_22_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_22_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_23_Kernel [hKernelIdeal : Cert.KernelIdeal.Facts] [hReferenceIdeal : Cert.ReferenceIdeal.Facts] [hPre_rotated_by_23_Kernel : Cert.Pre_rotated_by_23_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_23_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_24_Kernel [hKernelIdeal : Cert.KernelIdeal.Facts] [hReferenceIdeal : Cert.ReferenceIdeal.Facts] [hPre_rotated_by_24_Kernel : Cert.Pre_rotated_by_24_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_24_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_25_Kernel [hKernelIdeal : Cert.KernelIdeal.Facts] [hReferenceIdeal : Cert.ReferenceIdeal.Facts] [hPre_rotated_by_25_Kernel : Cert.Pre_rotated_by_25_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_25_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_26_Kernel [hKernelIdeal : Cert.KernelIdeal.Facts] [hReferenceIdeal : Cert.ReferenceIdeal.Facts] [hPre_rotated_by_26_Kernel : Cert.Pre_rotated_by_26_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_26_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_27_Kernel [hKernelIdeal : Cert.KernelIdeal.Facts] [hReferenceIdeal : Cert.ReferenceIdeal.Facts] [hPre_rotated_by_27_Kernel : Cert.Pre_rotated_by_27_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_27_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_28_Kernel [hKernelIdeal : Cert.KernelIdeal.Facts] [hReferenceIdeal : Cert.ReferenceIdeal.Facts] [hPre_rotated_by_28_Kernel : Cert.Pre_rotated_by_28_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_28_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_29_Kernel [hKernelIdeal : Cert.KernelIdeal.Facts] [hReferenceIdeal : Cert.ReferenceIdeal.Facts] [hPre_rotated_by_29_Kernel : Cert.Pre_rotated_by_29_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_29_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_30_Kernel [hKernelIdeal : Cert.KernelIdeal.Facts] [hReferenceIdeal : Cert.ReferenceIdeal.Facts] [hPre_rotated_by_30_Kernel : Cert.Pre_rotated_by_30_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_30_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rotated_by_31_Kernel [hKernelIdeal : Cert.KernelIdeal.Facts] [hReferenceIdeal : Cert.ReferenceIdeal.Facts] [hPre_rotated_by_31_Kernel : Cert.Pre_rotated_by_31_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotated_by_31_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![32, 2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hReferenceIdeal : Cert.ReferenceIdeal.Facts) (hKernel : Cert.Kernel.Facts) (hKernelIdeal : Cert.KernelIdeal.Facts) (hPre_rotated_by_0_ReferenceIdeal : Cert.Pre_rotated_by_0_ReferenceIdeal.Facts) (hPre_rotated_by_1_ReferenceIdeal : Cert.Pre_rotated_by_1_ReferenceIdeal.Facts) (hPre_rotated_by_2_ReferenceIdeal : Cert.Pre_rotated_by_2_ReferenceIdeal.Facts) (hPre_rotated_by_3_ReferenceIdeal : Cert.Pre_rotated_by_3_ReferenceIdeal.Facts) (hPre_rotated_by_4_ReferenceIdeal : Cert.Pre_rotated_by_4_ReferenceIdeal.Facts) (hPre_rotated_by_5_ReferenceIdeal : Cert.Pre_rotated_by_5_ReferenceIdeal.Facts) (hPre_rotated_by_6_ReferenceIdeal : Cert.Pre_rotated_by_6_ReferenceIdeal.Facts) (hPre_rotated_by_7_ReferenceIdeal : Cert.Pre_rotated_by_7_ReferenceIdeal.Facts) (hPre_rotated_by_8_ReferenceIdeal : Cert.Pre_rotated_by_8_ReferenceIdeal.Facts) (hPre_rotated_by_9_ReferenceIdeal : Cert.Pre_rotated_by_9_ReferenceIdeal.Facts) (hPre_rotated_by_10_ReferenceIdeal : Cert.Pre_rotated_by_10_ReferenceIdeal.Facts) (hPre_rotated_by_11_ReferenceIdeal : Cert.Pre_rotated_by_11_ReferenceIdeal.Facts) (hPre_rotated_by_12_ReferenceIdeal : Cert.Pre_rotated_by_12_ReferenceIdeal.Facts) (hPre_rotated_by_13_ReferenceIdeal : Cert.Pre_rotated_by_13_ReferenceIdeal.Facts) (hPre_rotated_by_14_ReferenceIdeal : Cert.Pre_rotated_by_14_ReferenceIdeal.Facts) (hPre_rotated_by_15_ReferenceIdeal : Cert.Pre_rotated_by_15_ReferenceIdeal.Facts) (hPre_rotated_by_16_ReferenceIdeal : Cert.Pre_rotated_by_16_ReferenceIdeal.Facts) (hPre_rotated_by_17_ReferenceIdeal : Cert.Pre_rotated_by_17_ReferenceIdeal.Facts) (hPre_rotated_by_18_ReferenceIdeal : Cert.Pre_rotated_by_18_ReferenceIdeal.Facts) (hPre_rotated_by_19_ReferenceIdeal : Cert.Pre_rotated_by_19_ReferenceIdeal.Facts) (hPre_rotated_by_20_ReferenceIdeal : Cert.Pre_rotated_by_20_ReferenceIdeal.Facts) (hPre_rotated_by_21_ReferenceIdeal : Cert.Pre_rotated_by_21_ReferenceIdeal.Facts) (hPre_rotated_by_22_ReferenceIdeal : Cert.Pre_rotated_by_22_ReferenceIdeal.Facts) (hPre_rotated_by_23_ReferenceIdeal : Cert.Pre_rotated_by_23_ReferenceIdeal.Facts) (hPre_rotated_by_24_ReferenceIdeal : Cert.Pre_rotated_by_24_ReferenceIdeal.Facts) (hPre_rotated_by_25_ReferenceIdeal : Cert.Pre_rotated_by_25_ReferenceIdeal.Facts) (hPre_rotated_by_26_ReferenceIdeal : Cert.Pre_rotated_by_26_ReferenceIdeal.Facts) (hPre_rotated_by_27_ReferenceIdeal : Cert.Pre_rotated_by_27_ReferenceIdeal.Facts) (hPre_rotated_by_28_ReferenceIdeal : Cert.Pre_rotated_by_28_ReferenceIdeal.Facts) (hPre_rotated_by_29_ReferenceIdeal : Cert.Pre_rotated_by_29_ReferenceIdeal.Facts) (hPre_rotated_by_30_ReferenceIdeal : Cert.Pre_rotated_by_30_ReferenceIdeal.Facts) (hPre_rotated_by_31_ReferenceIdeal : Cert.Pre_rotated_by_31_ReferenceIdeal.Facts) (hPre_rotated_by_0_Kernel : Cert.Pre_rotated_by_0_Kernel.Facts) (hPre_rotated_by_1_Kernel : Cert.Pre_rotated_by_1_Kernel.Facts) (hPre_rotated_by_2_Kernel : Cert.Pre_rotated_by_2_Kernel.Facts) (hPre_rotated_by_3_Kernel : Cert.Pre_rotated_by_3_Kernel.Facts) (hPre_rotated_by_4_Kernel : Cert.Pre_rotated_by_4_Kernel.Facts) (hPre_rotated_by_5_Kernel : Cert.Pre_rotated_by_5_Kernel.Facts) (hPre_rotated_by_6_Kernel : Cert.Pre_rotated_by_6_Kernel.Facts) (hPre_rotated_by_7_Kernel : Cert.Pre_rotated_by_7_Kernel.Facts) (hPre_rotated_by_8_Kernel : Cert.Pre_rotated_by_8_Kernel.Facts) (hPre_rotated_by_9_Kernel : Cert.Pre_rotated_by_9_Kernel.Facts) (hPre_rotated_by_10_Kernel : Cert.Pre_rotated_by_10_Kernel.Facts) (hPre_rotated_by_11_Kernel : Cert.Pre_rotated_by_11_Kernel.Facts) (hPre_rotated_by_12_Kernel : Cert.Pre_rotated_by_12_Kernel.Facts) (hPre_rotated_by_13_Kernel : Cert.Pre_rotated_by_13_Kernel.Facts) (hPre_rotated_by_14_Kernel : Cert.Pre_rotated_by_14_Kernel.Facts) (hPre_rotated_by_15_Kernel : Cert.Pre_rotated_by_15_Kernel.Facts) (hPre_rotated_by_16_Kernel : Cert.Pre_rotated_by_16_Kernel.Facts) (hPre_rotated_by_17_Kernel : Cert.Pre_rotated_by_17_Kernel.Facts) (hPre_rotated_by_18_Kernel : Cert.Pre_rotated_by_18_Kernel.Facts) (hPre_rotated_by_19_Kernel : Cert.Pre_rotated_by_19_Kernel.Facts) (hPre_rotated_by_20_Kernel : Cert.Pre_rotated_by_20_Kernel.Facts) (hPre_rotated_by_21_Kernel : Cert.Pre_rotated_by_21_Kernel.Facts) (hPre_rotated_by_22_Kernel : Cert.Pre_rotated_by_22_Kernel.Facts) (hPre_rotated_by_23_Kernel : Cert.Pre_rotated_by_23_Kernel.Facts) (hPre_rotated_by_24_Kernel : Cert.Pre_rotated_by_24_Kernel.Facts) (hPre_rotated_by_25_Kernel : Cert.Pre_rotated_by_25_Kernel.Facts) (hPre_rotated_by_26_Kernel : Cert.Pre_rotated_by_26_Kernel.Facts) (hPre_rotated_by_27_Kernel : Cert.Pre_rotated_by_27_Kernel.Facts) (hPre_rotated_by_28_Kernel : Cert.Pre_rotated_by_28_Kernel.Facts) (hPre_rotated_by_29_Kernel : Cert.Pre_rotated_by_29_Kernel.Facts) (hPre_rotated_by_30_Kernel : Cert.Pre_rotated_by_30_Kernel.Facts) (hPre_rotated_by_31_Kernel : Cert.Pre_rotated_by_31_Kernel.Facts),
    quiescent_ReferenceIdeal (hReferenceIdeal := hReferenceIdeal)
    ∧ quiescent_ReferenceIdeal_pre_rotated_by_0_ReferenceIdeal (hReferenceIdeal := hReferenceIdeal) (hPre_rotated_by_0_ReferenceIdeal := hPre_rotated_by_0_ReferenceIdeal)
    ∧ quiescent_ReferenceIdeal_pre_rotated_by_1_ReferenceIdeal (hReferenceIdeal := hReferenceIdeal) (hPre_rotated_by_1_ReferenceIdeal := hPre_rotated_by_1_ReferenceIdeal)
    ∧ quiescent_ReferenceIdeal_pre_rotated_by_2_ReferenceIdeal (hReferenceIdeal := hReferenceIdeal) (hPre_rotated_by_2_ReferenceIdeal := hPre_rotated_by_2_ReferenceIdeal)
    ∧ quiescent_ReferenceIdeal_pre_rotated_by_3_ReferenceIdeal (hReferenceIdeal := hReferenceIdeal) (hPre_rotated_by_3_ReferenceIdeal := hPre_rotated_by_3_ReferenceIdeal)
    ∧ quiescent_ReferenceIdeal_pre_rotated_by_4_ReferenceIdeal (hReferenceIdeal := hReferenceIdeal) (hPre_rotated_by_4_ReferenceIdeal := hPre_rotated_by_4_ReferenceIdeal)
    ∧ quiescent_ReferenceIdeal_pre_rotated_by_5_ReferenceIdeal (hReferenceIdeal := hReferenceIdeal) (hPre_rotated_by_5_ReferenceIdeal := hPre_rotated_by_5_ReferenceIdeal)
    ∧ quiescent_ReferenceIdeal_pre_rotated_by_6_ReferenceIdeal (hReferenceIdeal := hReferenceIdeal) (hPre_rotated_by_6_ReferenceIdeal := hPre_rotated_by_6_ReferenceIdeal)
    ∧ quiescent_ReferenceIdeal_pre_rotated_by_7_ReferenceIdeal (hReferenceIdeal := hReferenceIdeal) (hPre_rotated_by_7_ReferenceIdeal := hPre_rotated_by_7_ReferenceIdeal)
    ∧ quiescent_ReferenceIdeal_pre_rotated_by_8_ReferenceIdeal (hReferenceIdeal := hReferenceIdeal) (hPre_rotated_by_8_ReferenceIdeal := hPre_rotated_by_8_ReferenceIdeal)
    ∧ quiescent_ReferenceIdeal_pre_rotated_by_9_ReferenceIdeal (hReferenceIdeal := hReferenceIdeal) (hPre_rotated_by_9_ReferenceIdeal := hPre_rotated_by_9_ReferenceIdeal)
    ∧ quiescent_ReferenceIdeal_pre_rotated_by_10_ReferenceIdeal (hReferenceIdeal := hReferenceIdeal) (hPre_rotated_by_10_ReferenceIdeal := hPre_rotated_by_10_ReferenceIdeal)
    ∧ quiescent_ReferenceIdeal_pre_rotated_by_11_ReferenceIdeal (hReferenceIdeal := hReferenceIdeal) (hPre_rotated_by_11_ReferenceIdeal := hPre_rotated_by_11_ReferenceIdeal)
    ∧ quiescent_ReferenceIdeal_pre_rotated_by_12_ReferenceIdeal (hReferenceIdeal := hReferenceIdeal) (hPre_rotated_by_12_ReferenceIdeal := hPre_rotated_by_12_ReferenceIdeal)
    ∧ quiescent_ReferenceIdeal_pre_rotated_by_13_ReferenceIdeal (hReferenceIdeal := hReferenceIdeal) (hPre_rotated_by_13_ReferenceIdeal := hPre_rotated_by_13_ReferenceIdeal)
    ∧ quiescent_ReferenceIdeal_pre_rotated_by_14_ReferenceIdeal (hReferenceIdeal := hReferenceIdeal) (hPre_rotated_by_14_ReferenceIdeal := hPre_rotated_by_14_ReferenceIdeal)
    ∧ quiescent_ReferenceIdeal_pre_rotated_by_15_ReferenceIdeal (hReferenceIdeal := hReferenceIdeal) (hPre_rotated_by_15_ReferenceIdeal := hPre_rotated_by_15_ReferenceIdeal)
    ∧ quiescent_ReferenceIdeal_pre_rotated_by_16_ReferenceIdeal (hReferenceIdeal := hReferenceIdeal) (hPre_rotated_by_16_ReferenceIdeal := hPre_rotated_by_16_ReferenceIdeal)
    ∧ quiescent_ReferenceIdeal_pre_rotated_by_17_ReferenceIdeal (hReferenceIdeal := hReferenceIdeal) (hPre_rotated_by_17_ReferenceIdeal := hPre_rotated_by_17_ReferenceIdeal)
    ∧ quiescent_ReferenceIdeal_pre_rotated_by_18_ReferenceIdeal (hReferenceIdeal := hReferenceIdeal) (hPre_rotated_by_18_ReferenceIdeal := hPre_rotated_by_18_ReferenceIdeal)
    ∧ quiescent_ReferenceIdeal_pre_rotated_by_19_ReferenceIdeal (hReferenceIdeal := hReferenceIdeal) (hPre_rotated_by_19_ReferenceIdeal := hPre_rotated_by_19_ReferenceIdeal)
    ∧ quiescent_ReferenceIdeal_pre_rotated_by_20_ReferenceIdeal (hReferenceIdeal := hReferenceIdeal) (hPre_rotated_by_20_ReferenceIdeal := hPre_rotated_by_20_ReferenceIdeal)
    ∧ quiescent_ReferenceIdeal_pre_rotated_by_21_ReferenceIdeal (hReferenceIdeal := hReferenceIdeal) (hPre_rotated_by_21_ReferenceIdeal := hPre_rotated_by_21_ReferenceIdeal)
    ∧ quiescent_ReferenceIdeal_pre_rotated_by_22_ReferenceIdeal (hReferenceIdeal := hReferenceIdeal) (hPre_rotated_by_22_ReferenceIdeal := hPre_rotated_by_22_ReferenceIdeal)
    ∧ quiescent_ReferenceIdeal_pre_rotated_by_23_ReferenceIdeal (hReferenceIdeal := hReferenceIdeal) (hPre_rotated_by_23_ReferenceIdeal := hPre_rotated_by_23_ReferenceIdeal)
    ∧ quiescent_ReferenceIdeal_pre_rotated_by_24_ReferenceIdeal (hReferenceIdeal := hReferenceIdeal) (hPre_rotated_by_24_ReferenceIdeal := hPre_rotated_by_24_ReferenceIdeal)
    ∧ quiescent_ReferenceIdeal_pre_rotated_by_25_ReferenceIdeal (hReferenceIdeal := hReferenceIdeal) (hPre_rotated_by_25_ReferenceIdeal := hPre_rotated_by_25_ReferenceIdeal)
    ∧ quiescent_ReferenceIdeal_pre_rotated_by_26_ReferenceIdeal (hReferenceIdeal := hReferenceIdeal) (hPre_rotated_by_26_ReferenceIdeal := hPre_rotated_by_26_ReferenceIdeal)
    ∧ quiescent_ReferenceIdeal_pre_rotated_by_27_ReferenceIdeal (hReferenceIdeal := hReferenceIdeal) (hPre_rotated_by_27_ReferenceIdeal := hPre_rotated_by_27_ReferenceIdeal)
    ∧ quiescent_ReferenceIdeal_pre_rotated_by_28_ReferenceIdeal (hReferenceIdeal := hReferenceIdeal) (hPre_rotated_by_28_ReferenceIdeal := hPre_rotated_by_28_ReferenceIdeal)
    ∧ quiescent_ReferenceIdeal_pre_rotated_by_29_ReferenceIdeal (hReferenceIdeal := hReferenceIdeal) (hPre_rotated_by_29_ReferenceIdeal := hPre_rotated_by_29_ReferenceIdeal)
    ∧ quiescent_ReferenceIdeal_pre_rotated_by_30_ReferenceIdeal (hReferenceIdeal := hReferenceIdeal) (hPre_rotated_by_30_ReferenceIdeal := hPre_rotated_by_30_ReferenceIdeal)
    ∧ quiescent_ReferenceIdeal_pre_rotated_by_31_ReferenceIdeal (hReferenceIdeal := hReferenceIdeal) (hPre_rotated_by_31_ReferenceIdeal := hPre_rotated_by_31_ReferenceIdeal)
    ∧ quiescent_Kernel (hKernel := hKernel) (hPre_rotated_by_0_Kernel := hPre_rotated_by_0_Kernel)
    ∧ quiescent_Kernel_pre_rotated_by_1_Kernel (hKernel := hKernel) (hPre_rotated_by_1_Kernel := hPre_rotated_by_1_Kernel)
    ∧ quiescent_Kernel_pre_rotated_by_2_Kernel (hKernel := hKernel) (hPre_rotated_by_2_Kernel := hPre_rotated_by_2_Kernel)
    ∧ quiescent_Kernel_pre_rotated_by_3_Kernel (hKernel := hKernel) (hPre_rotated_by_3_Kernel := hPre_rotated_by_3_Kernel)
    ∧ quiescent_Kernel_pre_rotated_by_4_Kernel (hKernel := hKernel) (hPre_rotated_by_4_Kernel := hPre_rotated_by_4_Kernel)
    ∧ quiescent_Kernel_pre_rotated_by_5_Kernel (hKernel := hKernel) (hPre_rotated_by_5_Kernel := hPre_rotated_by_5_Kernel)
    ∧ quiescent_Kernel_pre_rotated_by_6_Kernel (hKernel := hKernel) (hPre_rotated_by_6_Kernel := hPre_rotated_by_6_Kernel)
    ∧ quiescent_Kernel_pre_rotated_by_7_Kernel (hKernel := hKernel) (hPre_rotated_by_7_Kernel := hPre_rotated_by_7_Kernel)
    ∧ quiescent_Kernel_pre_rotated_by_8_Kernel (hKernel := hKernel) (hPre_rotated_by_8_Kernel := hPre_rotated_by_8_Kernel)
    ∧ quiescent_Kernel_pre_rotated_by_9_Kernel (hKernel := hKernel) (hPre_rotated_by_9_Kernel := hPre_rotated_by_9_Kernel)
    ∧ quiescent_Kernel_pre_rotated_by_10_Kernel (hKernel := hKernel) (hPre_rotated_by_10_Kernel := hPre_rotated_by_10_Kernel)
    ∧ quiescent_Kernel_pre_rotated_by_11_Kernel (hKernel := hKernel) (hPre_rotated_by_11_Kernel := hPre_rotated_by_11_Kernel)
    ∧ quiescent_Kernel_pre_rotated_by_12_Kernel (hKernel := hKernel) (hPre_rotated_by_12_Kernel := hPre_rotated_by_12_Kernel)
    ∧ quiescent_Kernel_pre_rotated_by_13_Kernel (hKernel := hKernel) (hPre_rotated_by_13_Kernel := hPre_rotated_by_13_Kernel)
    ∧ quiescent_Kernel_pre_rotated_by_14_Kernel (hKernel := hKernel) (hPre_rotated_by_14_Kernel := hPre_rotated_by_14_Kernel)
    ∧ quiescent_Kernel_pre_rotated_by_15_Kernel (hKernel := hKernel) (hPre_rotated_by_15_Kernel := hPre_rotated_by_15_Kernel)
    ∧ quiescent_Kernel_pre_rotated_by_16_Kernel (hKernel := hKernel) (hPre_rotated_by_16_Kernel := hPre_rotated_by_16_Kernel)
    ∧ quiescent_Kernel_pre_rotated_by_17_Kernel (hKernel := hKernel) (hPre_rotated_by_17_Kernel := hPre_rotated_by_17_Kernel)
    ∧ quiescent_Kernel_pre_rotated_by_18_Kernel (hKernel := hKernel) (hPre_rotated_by_18_Kernel := hPre_rotated_by_18_Kernel)
    ∧ quiescent_Kernel_pre_rotated_by_19_Kernel (hKernel := hKernel) (hPre_rotated_by_19_Kernel := hPre_rotated_by_19_Kernel)
    ∧ quiescent_Kernel_pre_rotated_by_20_Kernel (hKernel := hKernel) (hPre_rotated_by_20_Kernel := hPre_rotated_by_20_Kernel)
    ∧ quiescent_Kernel_pre_rotated_by_21_Kernel (hKernel := hKernel) (hPre_rotated_by_21_Kernel := hPre_rotated_by_21_Kernel)
    ∧ quiescent_Kernel_pre_rotated_by_22_Kernel (hKernel := hKernel) (hPre_rotated_by_22_Kernel := hPre_rotated_by_22_Kernel)
    ∧ quiescent_Kernel_pre_rotated_by_23_Kernel (hKernel := hKernel) (hPre_rotated_by_23_Kernel := hPre_rotated_by_23_Kernel)
    ∧ quiescent_Kernel_pre_rotated_by_24_Kernel (hKernel := hKernel) (hPre_rotated_by_24_Kernel := hPre_rotated_by_24_Kernel)
    ∧ quiescent_Kernel_pre_rotated_by_25_Kernel (hKernel := hKernel) (hPre_rotated_by_25_Kernel := hPre_rotated_by_25_Kernel)
    ∧ quiescent_Kernel_pre_rotated_by_26_Kernel (hKernel := hKernel) (hPre_rotated_by_26_Kernel := hPre_rotated_by_26_Kernel)
    ∧ quiescent_Kernel_pre_rotated_by_27_Kernel (hKernel := hKernel) (hPre_rotated_by_27_Kernel := hPre_rotated_by_27_Kernel)
    ∧ quiescent_Kernel_pre_rotated_by_28_Kernel (hKernel := hKernel) (hPre_rotated_by_28_Kernel := hPre_rotated_by_28_Kernel)
    ∧ quiescent_Kernel_pre_rotated_by_29_Kernel (hKernel := hKernel) (hPre_rotated_by_29_Kernel := hPre_rotated_by_29_Kernel)
    ∧ quiescent_Kernel_pre_rotated_by_30_Kernel (hKernel := hKernel) (hPre_rotated_by_30_Kernel := hPre_rotated_by_30_Kernel)
    ∧ quiescent_Kernel_pre_rotated_by_31_Kernel (hKernel := hKernel) (hPre_rotated_by_31_Kernel := hPre_rotated_by_31_Kernel)
    ∧ quiescent_KernelIdeal (hKernelIdeal := hKernelIdeal) (hPre_rotated_by_0_Kernel := hPre_rotated_by_0_Kernel)
    ∧ quiescent_KernelIdeal_pre_rotated_by_1_Kernel (hKernelIdeal := hKernelIdeal) (hPre_rotated_by_1_Kernel := hPre_rotated_by_1_Kernel)
    ∧ quiescent_KernelIdeal_pre_rotated_by_2_Kernel (hKernelIdeal := hKernelIdeal) (hPre_rotated_by_2_Kernel := hPre_rotated_by_2_Kernel)
    ∧ quiescent_KernelIdeal_pre_rotated_by_3_Kernel (hKernelIdeal := hKernelIdeal) (hPre_rotated_by_3_Kernel := hPre_rotated_by_3_Kernel)
    ∧ quiescent_KernelIdeal_pre_rotated_by_4_Kernel (hKernelIdeal := hKernelIdeal) (hPre_rotated_by_4_Kernel := hPre_rotated_by_4_Kernel)
    ∧ quiescent_KernelIdeal_pre_rotated_by_5_Kernel (hKernelIdeal := hKernelIdeal) (hPre_rotated_by_5_Kernel := hPre_rotated_by_5_Kernel)
    ∧ quiescent_KernelIdeal_pre_rotated_by_6_Kernel (hKernelIdeal := hKernelIdeal) (hPre_rotated_by_6_Kernel := hPre_rotated_by_6_Kernel)
    ∧ quiescent_KernelIdeal_pre_rotated_by_7_Kernel (hKernelIdeal := hKernelIdeal) (hPre_rotated_by_7_Kernel := hPre_rotated_by_7_Kernel)
    ∧ quiescent_KernelIdeal_pre_rotated_by_8_Kernel (hKernelIdeal := hKernelIdeal) (hPre_rotated_by_8_Kernel := hPre_rotated_by_8_Kernel)
    ∧ quiescent_KernelIdeal_pre_rotated_by_9_Kernel (hKernelIdeal := hKernelIdeal) (hPre_rotated_by_9_Kernel := hPre_rotated_by_9_Kernel)
    ∧ quiescent_KernelIdeal_pre_rotated_by_10_Kernel (hKernelIdeal := hKernelIdeal) (hPre_rotated_by_10_Kernel := hPre_rotated_by_10_Kernel)
    ∧ quiescent_KernelIdeal_pre_rotated_by_11_Kernel (hKernelIdeal := hKernelIdeal) (hPre_rotated_by_11_Kernel := hPre_rotated_by_11_Kernel)
    ∧ quiescent_KernelIdeal_pre_rotated_by_12_Kernel (hKernelIdeal := hKernelIdeal) (hPre_rotated_by_12_Kernel := hPre_rotated_by_12_Kernel)
    ∧ quiescent_KernelIdeal_pre_rotated_by_13_Kernel (hKernelIdeal := hKernelIdeal) (hPre_rotated_by_13_Kernel := hPre_rotated_by_13_Kernel)
    ∧ quiescent_KernelIdeal_pre_rotated_by_14_Kernel (hKernelIdeal := hKernelIdeal) (hPre_rotated_by_14_Kernel := hPre_rotated_by_14_Kernel)
    ∧ quiescent_KernelIdeal_pre_rotated_by_15_Kernel (hKernelIdeal := hKernelIdeal) (hPre_rotated_by_15_Kernel := hPre_rotated_by_15_Kernel)
    ∧ quiescent_KernelIdeal_pre_rotated_by_16_Kernel (hKernelIdeal := hKernelIdeal) (hPre_rotated_by_16_Kernel := hPre_rotated_by_16_Kernel)
    ∧ quiescent_KernelIdeal_pre_rotated_by_17_Kernel (hKernelIdeal := hKernelIdeal) (hPre_rotated_by_17_Kernel := hPre_rotated_by_17_Kernel)
    ∧ quiescent_KernelIdeal_pre_rotated_by_18_Kernel (hKernelIdeal := hKernelIdeal) (hPre_rotated_by_18_Kernel := hPre_rotated_by_18_Kernel)
    ∧ quiescent_KernelIdeal_pre_rotated_by_19_Kernel (hKernelIdeal := hKernelIdeal) (hPre_rotated_by_19_Kernel := hPre_rotated_by_19_Kernel)
    ∧ quiescent_KernelIdeal_pre_rotated_by_20_Kernel (hKernelIdeal := hKernelIdeal) (hPre_rotated_by_20_Kernel := hPre_rotated_by_20_Kernel)
    ∧ quiescent_KernelIdeal_pre_rotated_by_21_Kernel (hKernelIdeal := hKernelIdeal) (hPre_rotated_by_21_Kernel := hPre_rotated_by_21_Kernel)
    ∧ quiescent_KernelIdeal_pre_rotated_by_22_Kernel (hKernelIdeal := hKernelIdeal) (hPre_rotated_by_22_Kernel := hPre_rotated_by_22_Kernel)
    ∧ quiescent_KernelIdeal_pre_rotated_by_23_Kernel (hKernelIdeal := hKernelIdeal) (hPre_rotated_by_23_Kernel := hPre_rotated_by_23_Kernel)
    ∧ quiescent_KernelIdeal_pre_rotated_by_24_Kernel (hKernelIdeal := hKernelIdeal) (hPre_rotated_by_24_Kernel := hPre_rotated_by_24_Kernel)
    ∧ quiescent_KernelIdeal_pre_rotated_by_25_Kernel (hKernelIdeal := hKernelIdeal) (hPre_rotated_by_25_Kernel := hPre_rotated_by_25_Kernel)
    ∧ quiescent_KernelIdeal_pre_rotated_by_26_Kernel (hKernelIdeal := hKernelIdeal) (hPre_rotated_by_26_Kernel := hPre_rotated_by_26_Kernel)
    ∧ quiescent_KernelIdeal_pre_rotated_by_27_Kernel (hKernelIdeal := hKernelIdeal) (hPre_rotated_by_27_Kernel := hPre_rotated_by_27_Kernel)
    ∧ quiescent_KernelIdeal_pre_rotated_by_28_Kernel (hKernelIdeal := hKernelIdeal) (hPre_rotated_by_28_Kernel := hPre_rotated_by_28_Kernel)
    ∧ quiescent_KernelIdeal_pre_rotated_by_29_Kernel (hKernelIdeal := hKernelIdeal) (hPre_rotated_by_29_Kernel := hPre_rotated_by_29_Kernel)
    ∧ quiescent_KernelIdeal_pre_rotated_by_30_Kernel (hKernelIdeal := hKernelIdeal) (hPre_rotated_by_30_Kernel := hPre_rotated_by_30_Kernel)
    ∧ quiescent_KernelIdeal_pre_rotated_by_31_Kernel (hKernelIdeal := hKernelIdeal) (hPre_rotated_by_31_Kernel := hPre_rotated_by_31_Kernel)
    ∧ preserves_Kernel_KernelIdeal
    ∧ algebraic_KernelIdeal_ReferenceIdeal (hKernelIdeal := hKernelIdeal) (hReferenceIdeal := hReferenceIdeal) (hPre_rotated_by_0_Kernel := hPre_rotated_by_0_Kernel)
    ∧ algebraic_KernelIdeal_ReferenceIdeal_pre_rotated_by_1_Kernel (hKernelIdeal := hKernelIdeal) (hReferenceIdeal := hReferenceIdeal) (hPre_rotated_by_1_Kernel := hPre_rotated_by_1_Kernel)
    ∧ algebraic_KernelIdeal_ReferenceIdeal_pre_rotated_by_2_Kernel (hKernelIdeal := hKernelIdeal) (hReferenceIdeal := hReferenceIdeal) (hPre_rotated_by_2_Kernel := hPre_rotated_by_2_Kernel)
    ∧ algebraic_KernelIdeal_ReferenceIdeal_pre_rotated_by_3_Kernel (hKernelIdeal := hKernelIdeal) (hReferenceIdeal := hReferenceIdeal) (hPre_rotated_by_3_Kernel := hPre_rotated_by_3_Kernel)
    ∧ algebraic_KernelIdeal_ReferenceIdeal_pre_rotated_by_4_Kernel (hKernelIdeal := hKernelIdeal) (hReferenceIdeal := hReferenceIdeal) (hPre_rotated_by_4_Kernel := hPre_rotated_by_4_Kernel)
    ∧ algebraic_KernelIdeal_ReferenceIdeal_pre_rotated_by_5_Kernel (hKernelIdeal := hKernelIdeal) (hReferenceIdeal := hReferenceIdeal) (hPre_rotated_by_5_Kernel := hPre_rotated_by_5_Kernel)
    ∧ algebraic_KernelIdeal_ReferenceIdeal_pre_rotated_by_6_Kernel (hKernelIdeal := hKernelIdeal) (hReferenceIdeal := hReferenceIdeal) (hPre_rotated_by_6_Kernel := hPre_rotated_by_6_Kernel)
    ∧ algebraic_KernelIdeal_ReferenceIdeal_pre_rotated_by_7_Kernel (hKernelIdeal := hKernelIdeal) (hReferenceIdeal := hReferenceIdeal) (hPre_rotated_by_7_Kernel := hPre_rotated_by_7_Kernel)
    ∧ algebraic_KernelIdeal_ReferenceIdeal_pre_rotated_by_8_Kernel (hKernelIdeal := hKernelIdeal) (hReferenceIdeal := hReferenceIdeal) (hPre_rotated_by_8_Kernel := hPre_rotated_by_8_Kernel)
    ∧ algebraic_KernelIdeal_ReferenceIdeal_pre_rotated_by_9_Kernel (hKernelIdeal := hKernelIdeal) (hReferenceIdeal := hReferenceIdeal) (hPre_rotated_by_9_Kernel := hPre_rotated_by_9_Kernel)
    ∧ algebraic_KernelIdeal_ReferenceIdeal_pre_rotated_by_10_Kernel (hKernelIdeal := hKernelIdeal) (hReferenceIdeal := hReferenceIdeal) (hPre_rotated_by_10_Kernel := hPre_rotated_by_10_Kernel)
    ∧ algebraic_KernelIdeal_ReferenceIdeal_pre_rotated_by_11_Kernel (hKernelIdeal := hKernelIdeal) (hReferenceIdeal := hReferenceIdeal) (hPre_rotated_by_11_Kernel := hPre_rotated_by_11_Kernel)
    ∧ algebraic_KernelIdeal_ReferenceIdeal_pre_rotated_by_12_Kernel (hKernelIdeal := hKernelIdeal) (hReferenceIdeal := hReferenceIdeal) (hPre_rotated_by_12_Kernel := hPre_rotated_by_12_Kernel)
    ∧ algebraic_KernelIdeal_ReferenceIdeal_pre_rotated_by_13_Kernel (hKernelIdeal := hKernelIdeal) (hReferenceIdeal := hReferenceIdeal) (hPre_rotated_by_13_Kernel := hPre_rotated_by_13_Kernel)
    ∧ algebraic_KernelIdeal_ReferenceIdeal_pre_rotated_by_14_Kernel (hKernelIdeal := hKernelIdeal) (hReferenceIdeal := hReferenceIdeal) (hPre_rotated_by_14_Kernel := hPre_rotated_by_14_Kernel)
    ∧ algebraic_KernelIdeal_ReferenceIdeal_pre_rotated_by_15_Kernel (hKernelIdeal := hKernelIdeal) (hReferenceIdeal := hReferenceIdeal) (hPre_rotated_by_15_Kernel := hPre_rotated_by_15_Kernel)
    ∧ algebraic_KernelIdeal_ReferenceIdeal_pre_rotated_by_16_Kernel (hKernelIdeal := hKernelIdeal) (hReferenceIdeal := hReferenceIdeal) (hPre_rotated_by_16_Kernel := hPre_rotated_by_16_Kernel)
    ∧ algebraic_KernelIdeal_ReferenceIdeal_pre_rotated_by_17_Kernel (hKernelIdeal := hKernelIdeal) (hReferenceIdeal := hReferenceIdeal) (hPre_rotated_by_17_Kernel := hPre_rotated_by_17_Kernel)
    ∧ algebraic_KernelIdeal_ReferenceIdeal_pre_rotated_by_18_Kernel (hKernelIdeal := hKernelIdeal) (hReferenceIdeal := hReferenceIdeal) (hPre_rotated_by_18_Kernel := hPre_rotated_by_18_Kernel)
    ∧ algebraic_KernelIdeal_ReferenceIdeal_pre_rotated_by_19_Kernel (hKernelIdeal := hKernelIdeal) (hReferenceIdeal := hReferenceIdeal) (hPre_rotated_by_19_Kernel := hPre_rotated_by_19_Kernel)
    ∧ algebraic_KernelIdeal_ReferenceIdeal_pre_rotated_by_20_Kernel (hKernelIdeal := hKernelIdeal) (hReferenceIdeal := hReferenceIdeal) (hPre_rotated_by_20_Kernel := hPre_rotated_by_20_Kernel)
    ∧ algebraic_KernelIdeal_ReferenceIdeal_pre_rotated_by_21_Kernel (hKernelIdeal := hKernelIdeal) (hReferenceIdeal := hReferenceIdeal) (hPre_rotated_by_21_Kernel := hPre_rotated_by_21_Kernel)
    ∧ algebraic_KernelIdeal_ReferenceIdeal_pre_rotated_by_22_Kernel (hKernelIdeal := hKernelIdeal) (hReferenceIdeal := hReferenceIdeal) (hPre_rotated_by_22_Kernel := hPre_rotated_by_22_Kernel)
    ∧ algebraic_KernelIdeal_ReferenceIdeal_pre_rotated_by_23_Kernel (hKernelIdeal := hKernelIdeal) (hReferenceIdeal := hReferenceIdeal) (hPre_rotated_by_23_Kernel := hPre_rotated_by_23_Kernel)
    ∧ algebraic_KernelIdeal_ReferenceIdeal_pre_rotated_by_24_Kernel (hKernelIdeal := hKernelIdeal) (hReferenceIdeal := hReferenceIdeal) (hPre_rotated_by_24_Kernel := hPre_rotated_by_24_Kernel)
    ∧ algebraic_KernelIdeal_ReferenceIdeal_pre_rotated_by_25_Kernel (hKernelIdeal := hKernelIdeal) (hReferenceIdeal := hReferenceIdeal) (hPre_rotated_by_25_Kernel := hPre_rotated_by_25_Kernel)
    ∧ algebraic_KernelIdeal_ReferenceIdeal_pre_rotated_by_26_Kernel (hKernelIdeal := hKernelIdeal) (hReferenceIdeal := hReferenceIdeal) (hPre_rotated_by_26_Kernel := hPre_rotated_by_26_Kernel)
    ∧ algebraic_KernelIdeal_ReferenceIdeal_pre_rotated_by_27_Kernel (hKernelIdeal := hKernelIdeal) (hReferenceIdeal := hReferenceIdeal) (hPre_rotated_by_27_Kernel := hPre_rotated_by_27_Kernel)
    ∧ algebraic_KernelIdeal_ReferenceIdeal_pre_rotated_by_28_Kernel (hKernelIdeal := hKernelIdeal) (hReferenceIdeal := hReferenceIdeal) (hPre_rotated_by_28_Kernel := hPre_rotated_by_28_Kernel)
    ∧ algebraic_KernelIdeal_ReferenceIdeal_pre_rotated_by_29_Kernel (hKernelIdeal := hKernelIdeal) (hReferenceIdeal := hReferenceIdeal) (hPre_rotated_by_29_Kernel := hPre_rotated_by_29_Kernel)
    ∧ algebraic_KernelIdeal_ReferenceIdeal_pre_rotated_by_30_Kernel (hKernelIdeal := hKernelIdeal) (hReferenceIdeal := hReferenceIdeal) (hPre_rotated_by_30_Kernel := hPre_rotated_by_30_Kernel)
    ∧ algebraic_KernelIdeal_ReferenceIdeal_pre_rotated_by_31_Kernel (hKernelIdeal := hKernelIdeal) (hReferenceIdeal := hReferenceIdeal) (hPre_rotated_by_31_Kernel := hPre_rotated_by_31_Kernel)
-- ==== Pre_rotated_by_0_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 0#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_0_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 0#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_10_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 22#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_10_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 22#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_11_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 21#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_11_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 21#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_12_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 20#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_12_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 20#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_13_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 19#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_13_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 19#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_14_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 18#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_14_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 18#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_15_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 17#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_15_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 17#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_16_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 16#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_16_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 16#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_17_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 15#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_17_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 15#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_18_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 14#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_18_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 14#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_19_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 13#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_19_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 13#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_1_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 31#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_1_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 31#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_20_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 12#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_20_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 12#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_21_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 11#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_21_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 11#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_22_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 10#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_22_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 10#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_23_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 9#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_23_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 9#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_24_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 8#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_24_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 8#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_25_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 7#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_25_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 7#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_26_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 6#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_26_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 6#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_27_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 5#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_27_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 5#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_28_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 4#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_28_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 4#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_29_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 3#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_29_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 3#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_2_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 30#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_2_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 30#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_30_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 2#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_30_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 2#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_31_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 1#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_31_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 1#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_3_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 29#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_3_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 29#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_4_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 28#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_4_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 28#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_5_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 27#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_5_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 27#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_6_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 26#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_6_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 26#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_7_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 25#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_7_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 25#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_8_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 24#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_8_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 24#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_9_Kernel.lean ====
abbrev S1x2048x1024 : Shape := ⟨3, ![1, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x2048x1024 .f32) (main_arg1 : IVec S32 32) : IVec S32 1 :=
  let main_v0 : IVec S32 32 := iotaInDim S32 32 0
  let main_c : IVec S_ 32 := constantI S_ 32 23#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rotated_by_9_ReferenceIdeal.lean ====
abbrev S32x2048x1024 : Shape := ⟨3, ![32, 2048, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x1024 .f32) (main_arg1 : IVec S32 32) : IVec S32 1 :=
  let main_v0 : IVec S32 32 := iotaInDim S32 32 0
  let main_c : IVec S_ 32 := constantI S_ 32 23#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== ReferenceIdeal.lean ====
abbrev S32x2048x1024 : Shape := ⟨3, ![32, 2048, 1024]⟩
abbrev S32 : Shape := ⟨1, ![32]⟩
abbrev S_ : Shape := ⟨0, ![]⟩
abbrev S32x1 : Shape := ⟨2, ![32, 1]⟩

abbrev nBuf : Space → Nat
  | .hbm => 14
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32, .i32⟩
  | .hbm, ⟨2, _⟩ => ⟨S32, .i32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel.lean ====
abbrev S1x2048x1024 : Shape := ⟨3, ![1, 2048, 1024]⟩
abbrev S32 : Shape := ⟨1, ![32]⟩
abbrev S1x1024x1024 : Shape := ⟨3, ![1, 1024, 1024]⟩
abbrev S_ : Shape := ⟨0, ![]⟩
abbrev S2 : Shape := ⟨1, ![2]⟩
abbrev S1 : Shape := ⟨1, ![1]⟩
abbrev S1x256x1024 : Shape := ⟨3, ![1, 256, 1024]⟩

abbrev nBuf : Space → Nat
  | .hbm => 3
  | .vmem => 1
  | .smem => 1
  | _ => 0

abbrev bufTy : (tb : Table) → Fin (tcTables nBuf tb) → BufTy
  | .hbm, ⟨0, _⟩ => ⟨S1x2048x1024, .f32⟩
  | .hbm, ⟨1, _⟩ => ⟨S32, .i32⟩
  | .hbm, ⟨2, _⟩ => ⟨S1x2048x1024, .f32⟩
  | .local _ .vmem, ⟨0, _⟩ => ⟨S1x1024x1024, .f32⟩
  | .local _ .smem, ⟨0, _⟩ => ⟨S32, .i32⟩
  | _, _ => ⟨S1x2048x1024, .f32⟩

abbrev bufScoped : (cs : CoreSpace) → Fin (nBuf (.core cs)) → Bool
  | .vmem, ⟨0, _⟩ => true
  | .smem, ⟨0, _⟩ => true
  | _, _ => false

abbrev semScoped : Fin 2 → Bool
  | ⟨0, _⟩ => false
  | ⟨1, _⟩ => true
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 2 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_dev1 (v4 : BitVec 32) : Nat :=
  let c0_i32 : BitVec 32 := 0#32
  let c1_i32_14 : BitVec 32 := 1#32
  let v22 : BitVec 32 := Scalar.muli v4 c1_i32_14
  let v23 : BitVec 32 := Scalar.addi c0_i32 v22
  v23.toNat

def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.addi v2 c1_i32_0
  let c32_i32_1 : BitVec 32 := 32#32
  let v6 : BitVec 32 := Scalar.remsi v5 c32_i32_1
  let c1_i32_16 : BitVec 32 := 1#32
  let v24 : BitVec 32 := Scalar.muli v6 c1_i32_16
  let v25 : BitVec 32 := Scalar.addi c0_i32_17 v24
  v25.toNat
def k0_dev3 (v4 : BitVec 32) : Nat :=
  let c0_i32_20 : BitVec 32 := 0#32
  let c32_i32_2 : BitVec 32 := 32#32
  let v7 : BitVec 32 := Scalar.addi v4 c32_i32_2
  let c1_i32_3 : BitVec 32 := 1#32
  let v8 : BitVec 32 := Scalar.subi v7 c1_i32_3
  let c32_i32_4 : BitVec 32 := 32#32
  let v9 : BitVec 32 := Scalar.remsi v8 c32_i32_4
  let c1_i32_19 : BitVec 32 := 1#32
  let v26 : BitVec 32 := Scalar.muli v9 c1_i32_19
  let v27 : BitVec 32 := Scalar.addi c0_i32_20 v26
  v27.toNat
def k0_dev4 (d0 : Dev nD) (v4 : BitVec 32) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v10 : BitVec 32 := Scalar.subi v2 v4
  let c32_i32_5 : BitVec 32 := 32#32
  let v11 : BitVec 32 := Scalar.addi v10 c32_i32_5
  let c32_i32_6 : BitVec 32 := 32#32
  let v12 : BitVec 32 := Scalar.remsi v11 c32_i32_6
  let v13 : BitVec 32 := Scalar.addi v2 v12
  let c32_i32_7 : BitVec 32 := 32#32
  let v14 : BitVec 32 := Scalar.remsi v13 c32_i32_7
  let c1_i32_22 : BitVec 32 := 1#32
  let v28 : BitVec 32 := Scalar.muli v14 c1_i32_22
  let v29 : BitVec 32 := Scalar.addi c0_i32_23 v28
  v29.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_8 : BitVec 32 := 32#32
  let v15 : BitVec 32 := Scalar.addi v2 c32_i32_8
  let c1_i32_9 : BitVec 32 := 1#32
  let v16 : BitVec 32 := Scalar.subi v15 c1_i32_9
  let c32_i32_10 : BitVec 32 := 32#32
  let v17 : BitVec 32 := Scalar.remsi v16 c32_i32_10
  let c1_i32_25 : BitVec 32 := 1#32
  let v30 : BitVec 32 := Scalar.muli v17 c1_i32_25
  let v31 : BitVec 32 := Scalar.addi c0_i32_26 v30
  v31.toNat
def k0_dev6 (d0 : Dev nD) (v4 : BitVec 32) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v10 : BitVec 32 := Scalar.subi v2 v4
  let c32_i32_5 : BitVec 32 := 32#32
  let v11 : BitVec 32 := Scalar.addi v10 c32_i32_5
  let c32_i32_6 : BitVec 32 := 32#32
  let v12 : BitVec 32 := Scalar.remsi v11 c32_i32_6
  let v18 : BitVec 32 := Scalar.addi v2 v12
  let c1_i32_11 : BitVec 32 := 1#32
  let v19 : BitVec 32 := Scalar.addi v18 c1_i32_11
  let c32_i32_12 : BitVec 32 := 32#32
  let v20 : BitVec 32 := Scalar.remsi v19 c32_i32_12
  let c1_i32_28 : BitVec 32 := 1#32
  let v32 : BitVec 32 := Scalar.muli v20 c1_i32_28
  let v33 : BitVec 32 := Scalar.addi c0_i32_29 v32
  v33.toNat
def k0_dev7 (v4 : BitVec 32) : Nat :=
  let c0_i32_31 : BitVec 32 := 0#32
  let c1_i32_30 : BitVec 32 := 1#32
  let v34 : BitVec 32 := Scalar.muli v4 c1_i32_30
  let v35 : BitVec 32 := Scalar.addi c0_i32_31 v34
  v35.toNat
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.addi v2 c1_i32_0
  let c32_i32_1 : BitVec 32 := 32#32
  let v6 : BitVec 32 := Scalar.remsi v5 c32_i32_1
  let c1_i32_40 : BitVec 32 := 1#32
  let v38 : BitVec 32 := Scalar.muli v6 c1_i32_40
  let v39 : BitVec 32 := Scalar.addi c0_i32_41 v38
  v39.toNat
def k0_dev9 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.addi v2 c1_i32_0
  let c32_i32_1 : BitVec 32 := 32#32
  let v6 : BitVec 32 := Scalar.remsi v5 c32_i32_1
  let c1_i32_49 : BitVec 32 := 1#32
  let v46 : BitVec 32 := Scalar.muli v6 c1_i32_49
  let v47 : BitVec 32 := Scalar.addi c0_i32_50 v46
  v47.toNat
def k0_dev10 (v4 : BitVec 32) : Nat :=
  let c0_i32_58 : BitVec 32 := 0#32
  let c32_i32_2 : BitVec 32 := 32#32
  let v7 : BitVec 32 := Scalar.addi v4 c32_i32_2
  let c1_i32_3 : BitVec 32 := 1#32
  let v8 : BitVec 32 := Scalar.subi v7 c1_i32_3
  let c32_i32_4 : BitVec 32 := 32#32
  let v9 : BitVec 32 := Scalar.remsi v8 c32_i32_4
  let c1_i32_57 : BitVec 32 := 1#32
  let v54 : BitVec 32 := Scalar.muli v9 c1_i32_57
  let v55 : BitVec 32 := Scalar.addi c0_i32_58 v54
  v55.toNat
def k0_dev11 (v4 : BitVec 32) : Nat :=
  let c0_i32_66 : BitVec 32 := 0#32
  let c32_i32_2 : BitVec 32 := 32#32
  let v7 : BitVec 32 := Scalar.addi v4 c32_i32_2
  let c1_i32_3 : BitVec 32 := 1#32
  let v8 : BitVec 32 := Scalar.subi v7 c1_i32_3
  let c32_i32_4 : BitVec 32 := 32#32
  let v9 : BitVec 32 := Scalar.remsi v8 c32_i32_4
  let c1_i32_65 : BitVec 32 := 1#32
  let v62 : BitVec 32 := Scalar.muli v9 c1_i32_65
  let v63 : BitVec 32 := Scalar.addi c0_i32_66 v62
  v63.toNat
def k0_dev12 (v4 : BitVec 32) : Nat :=
  let c0_i32_84 : BitVec 32 := 0#32
  let c32_i32_2 : BitVec 32 := 32#32
  let v7 : BitVec 32 := Scalar.addi v4 c32_i32_2
  let c1_i32_3 : BitVec 32 := 1#32
  let v8 : BitVec 32 := Scalar.subi v7 c1_i32_3
  let c32_i32_4 : BitVec 32 := 32#32
  let v9 : BitVec 32 := Scalar.remsi v8 c32_i32_4
  let c1_i32_83 : BitVec 32 := 1#32
  let v76 : BitVec 32 := Scalar.muli v9 c1_i32_83
  let v77 : BitVec 32 := Scalar.addi c0_i32_84 v76
  v77.toNat
def k0_dev13 (v4 : BitVec 32) : Nat :=
  let c0_i32_104 : BitVec 32 := 0#32
  let c32_i32_2 : BitVec 32 := 32#32
  let v7 : BitVec 32 := Scalar.addi v4 c32_i32_2
  let c1_i32_3 : BitVec 32 := 1#32
  let v8 : BitVec 32 := Scalar.subi v7 c1_i32_3
  let c32_i32_4 : BitVec 32 := 32#32
  let v9 : BitVec 32 := Scalar.remsi v8 c32_i32_4
  let c1_i32_103 : BitVec 32 := 1#32
  let v90 : BitVec 32 := Scalar.muli v9 c1_i32_103
  let v91 : BitVec 32 := Scalar.addi c0_i32_104 v90
  v91.toNat
def k0_dev14 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.addi v2 c1_i32_0
  let c32_i32_1 : BitVec 32 := 32#32
  let v6 : BitVec 32 := Scalar.remsi v5 c32_i32_1
  let c1_i32_123 : BitVec 32 := 1#32
  let v104 : BitVec 32 := Scalar.muli v6 c1_i32_123
  let v105 : BitVec 32 := Scalar.addi c0_i32_124 v104
  v105.toNat
def k0_dev15 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.addi v2 c1_i32_0
  let c32_i32_1 : BitVec 32 := 32#32
  let v6 : BitVec 32 := Scalar.remsi v5 c32_i32_1
  let c1_i32_143 : BitVec 32 := 1#32
  let v118 : BitVec 32 := Scalar.muli v6 c1_i32_143
  let v119 : BitVec 32 := Scalar.addi c0_i32_144 v118
  v119.toNat
def k0_dev16 (v4 : BitVec 32) : Nat :=
  let c0_i32_280_r0 : BitVec 32 := 0#32
  let c1_i32_279_r0 : BitVec 32 := 1#32
  let v189_r0 : BitVec 32 := Scalar.muli v4 c1_i32_279_r0
  let v190_r0 : BitVec 32 := Scalar.addi c0_i32_280_r0 v189_r0
  v190_r0.toNat
def k0_dev17 (d0 : Dev nD) : Nat :=
  let c0_i32_283_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.addi v2 c1_i32_0
  let c32_i32_1 : BitVec 32 := 32#32
  let v6 : BitVec 32 := Scalar.remsi v5 c32_i32_1
  let c1_i32_282_r0 : BitVec 32 := 1#32
  let v191_r0 : BitVec 32 := Scalar.muli v6 c1_i32_282_r0
  let v192_r0 : BitVec 32 := Scalar.addi c0_i32_283_r0 v191_r0
  v192_r0.toNat
def k0_dev18 (v4 : BitVec 32) : Nat :=
  let c0_i32_286_r0 : BitVec 32 := 0#32
  let c32_i32_2 : BitVec 32 := 32#32
  let v7 : BitVec 32 := Scalar.addi v4 c32_i32_2
  let c1_i32_3 : BitVec 32 := 1#32
  let v8 : BitVec 32 := Scalar.subi v7 c1_i32_3
  let c32_i32_4 : BitVec 32 := 32#32
  let v9 : BitVec 32 := Scalar.remsi v8 c32_i32_4
  let c1_i32_285_r0 : BitVec 32 := 1#32
  let v193_r0 : BitVec 32 := Scalar.muli v9 c1_i32_285_r0
  let v194_r0 : BitVec 32 := Scalar.addi c0_i32_286_r0 v193_r0
  v194_r0.toNat
def k0_dev19 (d0 : Dev nD) (v4 : BitVec 32) : Nat :=
  let c0_i32_289_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v10 : BitVec 32 := Scalar.subi v2 v4
  let c32_i32_5 : BitVec 32 := 32#32
  let v11 : BitVec 32 := Scalar.addi v10 c32_i32_5
  let c32_i32_6 : BitVec 32 := 32#32
  let v12 : BitVec 32 := Scalar.remsi v11 c32_i32_6
  let v13 : BitVec 32 := Scalar.addi v2 v12
  let c32_i32_7 : BitVec 32 := 32#32
  let v14 : BitVec 32 := Scalar.remsi v13 c32_i32_7
  let c1_i32_288_r0 : BitVec 32 := 1#32
  let v195_r0 : BitVec 32 := Scalar.muli v14 c1_i32_288_r0
  let v196_r0 : BitVec 32 := Scalar.addi c0_i32_289_r0 v195_r0
  v196_r0.toNat
def k0_dev20 (d0 : Dev nD) : Nat :=
  let c0_i32_292_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_8 : BitVec 32 := 32#32
  let v15 : BitVec 32 := Scalar.addi v2 c32_i32_8
  let c1_i32_9 : BitVec 32 := 1#32
  let v16 : BitVec 32 := Scalar.subi v15 c1_i32_9
  let c32_i32_10 : BitVec 32 := 32#32
  let v17 : BitVec 32 := Scalar.remsi v16 c32_i32_10
  let c1_i32_291_r0 : BitVec 32 := 1#32
  let v197_r0 : BitVec 32 := Scalar.muli v17 c1_i32_291_r0
  let v198_r0 : BitVec 32 := Scalar.addi c0_i32_292_r0 v197_r0
  v198_r0.toNat
def k0_dev21 (d0 : Dev nD) (v4 : BitVec 32) : Nat :=
  let c0_i32_295_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v10 : BitVec 32 := Scalar.subi v2 v4
  let c32_i32_5 : BitVec 32 := 32#32
  let v11 : BitVec 32 := Scalar.addi v10 c32_i32_5
  let c32_i32_6 : BitVec 32 := 32#32
  let v12 : BitVec 32 := Scalar.remsi v11 c32_i32_6
  let v18 : BitVec 32 := Scalar.addi v2 v12
  let c1_i32_11 : BitVec 32 := 1#32
  let v19 : BitVec 32 := Scalar.addi v18 c1_i32_11
  let c32_i32_12 : BitVec 32 := 32#32
  let v20 : BitVec 32 := Scalar.remsi v19 c32_i32_12
  let c1_i32_294_r0 : BitVec 32 := 1#32
  let v199_r0 : BitVec 32 := Scalar.muli v20 c1_i32_294_r0
  let v200_r0 : BitVec 32 := Scalar.addi c0_i32_295_r0 v199_r0
  v200_r0.toNat

def k0_chk1 (d0 : Dev nD) (v4 : BitVec 32) : Prop :=
  ((k0_dev1 v4) < nD) ∧
  ((k0_dev3 v4) < nD) ∧
  ((k0_dev4 d0 v4) < nD) ∧
  ((k0_dev6 d0 v4) < nD) ∧
  ((k0_dev7 v4) < nD) ∧
  ((k0_dev10 v4) < nD) ∧
  ((k0_dev11 v4) < nD) ∧
  ((k0_dev12 v4) < nD) ∧
  ((k0_dev13 v4) < nD) ∧
  ((k0_dev16 v4) < nD) ∧
  ((k0_dev18 v4) < nD) ∧
  ((k0_dev19 d0 v4) < nD) ∧
  ((k0_dev21 d0 v4) < nD)
theorem k0_dev1_lt : ∀ (d0 : Dev nD) (v4 : BitVec 32) (k0_hw1 : k0_chk1 d0 v4), (k0_dev1 v4) < nD := fun d0 v4 k0_hw1 => k0_hw1.1
theorem k0_dev3_lt : ∀ (d0 : Dev nD) (v4 : BitVec 32) (k0_hw1 : k0_chk1 d0 v4), (k0_dev3 v4) < nD := fun d0 v4 k0_hw1 => k0_hw1.2.1
theorem k0_dev4_lt : ∀ (d0 : Dev nD) (v4 : BitVec 32) (k0_hw1 : k0_chk1 d0 v4), (k0_dev4 d0 v4) < nD := fun d0 v4 k0_hw1 => k0_hw1.2.2.1
theorem k0_dev6_lt : ∀ (d0 : Dev nD) (v4 : BitVec 32) (k0_hw1 : k0_chk1 d0 v4), (k0_dev6 d0 v4) < nD := fun d0 v4 k0_hw1 => k0_hw1.2.2.2.1
theorem k0_dev7_lt : ∀ (d0 : Dev nD) (v4 : BitVec 32) (k0_hw1 : k0_chk1 d0 v4), (k0_dev7 v4) < nD := fun d0 v4 k0_hw1 => k0_hw1.2.2.2.2.1
theorem k0_dev10_lt : ∀ (d0 : Dev nD) (v4 : BitVec 32) (k0_hw1 : k0_chk1 d0 v4), (k0_dev10 v4) < nD := fun d0 v4 k0_hw1 => k0_hw1.2.2.2.2.2.1
theorem k0_dev11_lt : ∀ (d0 : Dev nD) (v4 : BitVec 32) (k0_hw1 : k0_chk1 d0 v4), (k0_dev11 v4) < nD := fun d0 v4 k0_hw1 => k0_hw1.2.2.2.2.2.2.1
theorem k0_dev12_lt : ∀ (d0 : Dev nD) (v4 : BitVec 32) (k0_hw1 : k0_chk1 d0 v4), (k0_dev12 v4) < nD := fun d0 v4 k0_hw1 => k0_hw1.2.2.2.2.2.2.2.1
theorem k0_dev13_lt : ∀ (d0 : Dev nD) (v4 : BitVec 32) (k0_hw1 : k0_chk1 d0 v4), (k0_dev13 v4) < nD := fun d0 v4 k0_hw1 => k0_hw1.2.2.2.2.2.2.2.2.1
theorem k0_dev16_lt : ∀ (d0 : Dev nD) (v4 : BitVec 32) (k0_hw1 : k0_chk1 d0 v4), (k0_dev16 v4) < nD := fun d0 v4 k0_hw1 => k0_hw1.2.2.2.2.2.2.2.2.2.1
theorem k0_dev18_lt : ∀ (d0 : Dev nD) (v4 : BitVec 32) (k0_hw1 : k0_chk1 d0 v4), (k0_dev18 v4) < nD := fun d0 v4 k0_hw1 => k0_hw1.2.2.2.2.2.2.2.2.2.2.1
theorem k0_dev19_lt : ∀ (d0 : Dev nD) (v4 : BitVec 32) (k0_hw1 : k0_chk1 d0 v4), (k0_dev19 d0 v4) < nD := fun d0 v4 k0_hw1 => k0_hw1.2.2.2.2.2.2.2.2.2.2.2.1
theorem k0_dev21_lt : ∀ (d0 : Dev nD) (v4 : BitVec 32) (k0_hw1 : k0_chk1 d0 v4), (k0_dev21 d0 v4) < nD := fun d0 v4 k0_hw1 => k0_hw1.2.2.2.2.2.2.2.2.2.2.2.2

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Proof.Plan.lean ====
/-
# The protocol of the rotation kernel

Thirty-two devices; device `c` sends its block of 2048 rows to device `c + s` (`s` the shift, a fixed number mod 32).
Rows 0–1023 go straight there (transfer 0). Rows 1024–1535 go in two chunks of 256 rows through the device to the right,
`c + 1` (transfers 1, 2), which forwards them to the device before the target, counted from itself, `(c + 1) + (s - 1)`
(transfers 5, 6). Rows 1536–2047 go in two chunks through `c + (s - 1)` (transfers 3, 4), which forwards them to its right
neighbour (transfers 7, 8). Each device has a relay buffer of 1024 rows: rows 0–511 take the chunks of its left neighbour,
rows 512–1023 those of the device `s - 1` before it.

Each semaphore has one round of contributions, each contribution (here a *duty*) made once:

* the entry barrier: six signals of one unit, to the devices `c + s`, `c + 1`, `c + (s - 1)`, `c - s`, `c - 1`, `c + (1 - s)`;
  the last three hand over the rows of the signaller's buffers that the signalled device is to fill;
* one receive semaphore per transfer: its landing, which hands over the rows filled, with their contents;
* one send semaphore per transfer: its source has been read, which hands the source rows back;
* the exit barrier: the same six signals, handing over nothing.

Duties 0–5 are the entry signals, 6–14 the landings of transfers 0–8, 15–20 the exit signals, 21–29 the source reads of
transfers 0–8. Duties 0–20 are numbered in the order in which a device's program makes them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Rotate

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline library's and the rounds of the thirty duties -/

abbrev UB : Type := URounds (GSem nD τ sig) (Fin 30)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores and the duties -/

/-- The twenty semaphores of the protocol: the entry barrier, the exit barrier, the eighteen DMA semaphores. -/
def ksem (j : Fin 20) : SemLoc sig :=
  if j.val = 0 then .reg (⟨0, by decide⟩ : Fin 2) else if j.val = 1 then .reg (⟨1, by decide⟩ : Fin 2)
  else .dma (⟨j.val - 1, by have := j.isLt; show j.val - 1 < 19; omega⟩ : Fin 19)

/-- The semaphore a duty contributes to. -/
def cix : Fin 30 → Fin 20 := ![0, 0, 0, 0, 0, 0, 3, 6, 7, 10, 11, 14, 15, 18, 19, 1, 1, 1, 1, 1, 1, 2, 4, 5, 8, 9, 12, 13, 16, 17]

abbrev csem (d : Fin 30) : SemLoc sig := ksem (cix d)

/-- How far from the contributor the device lies whose semaphore the duty contributes to. -/
def disp (s : Fin 32) : Fin 30 → Fin 32 :=
  ![s, 1, s - 1, -s, -1, 1 - s, s, 1, 1, s - 1, s - 1, s - 1, s - 1, 1, 1, s, 1, s - 1, -s, -1, 1 - s, 0, 0, 0, 0, 0, 0, 0, 0, 0]

/-- Device `e`'s cell of duty `d`'s semaphore; -/
abbrev cell (e : Dev nD) (d : Fin 30) : GSem nD τ sig := ((e : Thread nD τ), csem d)
/-- the cells enumerated; -/
abbrev kcell (cj : Dev nD × Fin 20) : GSem nD τ sig := ((cj.1 : Thread nD τ), ksem cj.2)

/-- the device that duty `d` of device `c` is addressed to. -/
abbrev tgt (s : Fin 32) (c : Dev nD) (d : Fin 30) : Dev nD := (show Fin 32 from c) + disp s d

theorem ksem_inj : Function.Injective ksem := by decide

/-- The credit of a transfer of 1024 rows and of one of 256 rows. -/
abbrev NB : ℕ := RefSig.tileCredit S1x1024x1024 .f32
abbrev NC : ℕ := RefSig.tileCredit S1x256x1024 .f32
theorem NB_pos : 0 < NB := RefSig.tileCredit_pos _ _ (by decide)
theorem NC_pos : 0 < NC := RefSig.tileCredit_pos _ _ (by decide)

/-- What a duty adds to its semaphore. -/
def amt (d : Fin 30) : ℕ :=
  if d.val < 6 ∨ (15 ≤ d.val ∧ d.val < 21) then 1 else if d.val = 6 ∨ d.val = 21 then NB else NC
theorem amt_pos (d : Fin 30) : 0 < amt d := by
  unfold amt; split
  · exact Nat.one_pos
  · split
    · exact NB_pos
    · exact NC_pos

/-! ## Rows -/

/-- The elements of rows `lo`, …, `lo + n - 1` of a three-axis buffer. -/
def rows (z : Fin 3 → ℕ) (lo n : ℕ) : Finset (⟨3, z⟩ : Shape).Idx :=
  Finset.univ.filter fun i => lo ≤ (i 1).val ∧ (i 1).val < lo + n

theorem mem_rows {z : Fin 3 → ℕ} {lo n : ℕ} {i : (⟨3, z⟩ : Shape).Idx} : i ∈ rows z lo n ↔ lo ≤ (i 1).val ∧ (i 1).val < lo + n := by
  unfold rows; rw [Finset.mem_filter]; exact ⟨fun h => h.2, fun h => ⟨Finset.mem_univ _, h⟩⟩

theorem rows_disjoint {z : Fin 3 → ℕ} {lo n lo' n' : ℕ} (h : lo + n ≤ lo' ∨ lo' + n' ≤ lo) : Disjoint (rows z lo n) (rows z lo' n') := by
  rw [Finset.disjoint_left]; intro i hi hi'
  rw [mem_rows] at hi hi'; omega

theorem rows_union {z : Fin 3 → ℕ} {lo n n' : ℕ} : rows z lo (n + n') = rows z lo n ∪ rows z (lo + n) n' := by
  ext i; rw [Finset.mem_union, mem_rows, mem_rows, mem_rows]; omega

theorem rows_all {z : Fin 3 → ℕ} : rows z 0 (z 1) = Finset.univ := by
  ext i; rw [mem_rows]; have := (i 1).isLt; simp only [Finset.mem_univ, iff_true]; exact ⟨Nat.zero_le _, by simpa using this⟩

/-- The rectangle of rows `lo`, …, `lo + n - 1`, as the program writes it, is those rows. -/
theorem rect_rows {z : Fin 3 → ℕ} (lo n : ℕ) (inb : ∀ a, (![0, lo, 0] : Fin 3 → ℕ) a + (![z 0, n, z 2] : Fin 3 → ℕ) a ≤ z a) :
    (Rect.unit (s := ⟨3, z⟩) ![0, lo, 0] ![z 0, n, z 2] inb).set = rows z lo n := by
  ext i; rw [Rect.mem_set_unit, mem_rows]
  refine ⟨fun h => h 1, fun h a => ?_⟩
  match a with
  | ⟨0, _⟩ => exact ⟨Nat.zero_le _, by have := (i 0).isLt; show (i 0).val < 0 + z 0; rw [Nat.zero_add]; exact this⟩
  | ⟨1, _⟩ => exact h
  | ⟨2, _⟩ => exact ⟨Nat.zero_le _, by have := (i 2).isLt; show (i 2).val < 0 + z 2; rw [Nat.zero_add]; exact this⟩

/-! ## Contents -/

section Contents

variable (s : Fin 32) (m : (ℓ : Loc nD τ sig) → Buf (Elt F) ℓ)

abbrev zb : Fin 3 → ℕ := ![1, 2048, 1024]
abbrev zr : Fin 3 → ℕ := ![1, 1024, 1024]

/-- Device `c`'s block of the input, as an array. -/
abbrev X (c : Dev nD) : S1x2048x1024.Idx → Elt F .f32 := m ((c : Thread nD τ).loc main_arg0)

/-- What device `e`'s result holds at the end: the block of device `e - s`. -/
def outF (e : Dev nD) : S1x2048x1024.Idx → Elt F .f32 := X m ((show Fin 32 from e) - s)

/-- The index 1024 rows further down, in a buffer of 2048 rows. -/
def down (i : S1x1024x1024.Idx) : S1x2048x1024.Idx := fun a => match a with
  | ⟨0, _⟩ => i 0
  | ⟨1, _⟩ => ⟨(i 1).val + 1024, by have : (i 1).val < 1024 := (i 1).isLt; show (i 1).val + 1024 < 2048; omega⟩
  | ⟨2, _⟩ => i 2

/-- What device `e`'s relay buffer holds once filled: on rows 0–511 rows 1024–1535 of device `e - 1`, on rows 512–1023
    rows 1536–2047 of device `e - (s - 1)`. -/
def relF (e : Dev nD) : S1x1024x1024.Idx → Elt F .f32 := fun i =>
  if (i 1).val < 512 then X m ((show Fin 32 from e) - 1) (down i) else X m ((show Fin 32 from e) - (s - 1)) (down i)

/-- Rows of device `c`'s input block, of its result, of its relay buffer, held with contents `f`. -/
def xP (c : Dev nD) (lo n : ℕ) (f : S1x2048x1024.Idx → Elt F .f32) : sProp 𝕄 :=
  ((c : Thread nD τ).loc main_arg0) ↦[rows zb lo n]{fullShare} f
def outP (c : Dev nD) (lo n : ℕ) (f : S1x2048x1024.Idx → Elt F .f32) : sProp 𝕄 :=
  ((c : Thread nD τ).loc main_v1) ↦[rows zb lo n]{fullShare} f
def relP (c : Dev nD) (lo n : ℕ) (f : S1x1024x1024.Idx → Elt F .f32) : sProp 𝕄 :=
  ((c : Thread nD τ).loc cc0_scratch0) ↦[rows zr lo n]{fullShare} f

omit [FloatOps F] in
instance xP_storable (c : Dev nD) (lo n f) : BI.Storable (upEmb : UEmb _ 𝕄) (xP (F := F) c lo n f) := by unfold xP; infer_instance
omit [FloatOps F] in
instance outP_storable (c : Dev nD) (lo n f) : BI.Storable (upEmb : UEmb _ 𝕄) (outP (F := F) c lo n f) := by unfold outP; infer_instance
omit [FloatOps F] in
instance relP_storable (c : Dev nD) (lo n f) : BI.Storable (upEmb : UEmb _ 𝕄) (relP (F := F) c lo n f) := by unfold relP; infer_instance

/-- The rows device `c` is to fill at `c + (s - 1)`, at `c + 1`, at `c + s`, contents unknown. -/
def fillS (c : Dev nD) : sProp 𝕄 := iprop(∃ f, outP (F := F) ((show Fin 32 from c) + s) 0 1024 f)
def fill1 (c : Dev nD) : sProp 𝕄 :=
  iprop((∃ f, relP (F := F) ((show Fin 32 from c) + 1) 0 256 f) ∗ (∃ f, relP (F := F) ((show Fin 32 from c) + 1) 256 256 f)
    ∗ (∃ f, outP (F := F) ((show Fin 32 from c) + 1) 1536 256 f) ∗ (∃ f, outP (F := F) ((show Fin 32 from c) + 1) 1792 256 f))
def fillP (c : Dev nD) : sProp 𝕄 :=
  iprop((∃ f, relP (F := F) ((show Fin 32 from c) + (s - 1)) 512 256 f) ∗ (∃ f, relP (F := F) ((show Fin 32 from c) + (s - 1)) 768 256 f)
    ∗ (∃ f, outP (F := F) ((show Fin 32 from c) + (s - 1)) 1024 256 f) ∗ (∃ f, outP (F := F) ((show Fin 32 from c) + (s - 1)) 1280 256 f))

/-- What duty `d` hands the owner `e` of the semaphore it contributes to. -/
def pay (d : Fin 30) (e : Dev nD) : sProp 𝕄 := match d.val with
  | 3 => fillS s e
  | 4 => fill1 e
  | 5 => fillP s e
  | 6 => outP e 0 1024 (outF s m e)
  | 7 => relP e 0 256 (relF s m e)
  | 8 => relP e 256 256 (relF s m e)
  | 9 => relP e 512 256 (relF s m e)
  | 10 => relP e 768 256 (relF s m e)
  | 11 => outP e 1024 256 (outF s m e)
  | 12 => outP e 1280 256 (outF s m e)
  | 13 => outP e 1536 256 (outF s m e)
  | 14 => outP e 1792 256 (outF s m e)
  | 21 => xP e 0 1024 (X m e)
  | 22 => xP e 1024 256 (X m e)
  | 23 => xP e 1280 256 (X m e)
  | 24 => xP e 1536 256 (X m e)
  | 25 => xP e 1792 256 (X m e)
  | 26 => relP e 0 256 (relF s m e)
  | 27 => relP e 256 256 (relF s m e)
  | 28 => relP e 512 256 (relF s m e)
  | 29 => relP e 768 256 (relF s m e)
  | _ => iprop(emp)

omit [FloatOps F] in
instance pay_storable (d : Fin 30) (e : Dev nD) : BI.Storable (upEmb : UEmb _ 𝕄) (pay (F := F) s m d e) := by
  unfold pay fillS fill1 fillP
  split <;> infer_instance

/-- The schedule: one round, round 0, in which each semaphore gets the duties addressed to it. -/
def Rd : Rounds.Schedule (GSem nD τ sig) (Fin 30) 𝕄 where
  duties g r := if r = 0 ∧ g.1.2 = .tc then Finset.univ.filter fun d => csem d = g.2 else ∅
  unitless _ := False
  amount _ _ d := amt d
  payload g _ d := pay s m d g.1.1
  amount_pos _ _ d _ := amt_pos d

instance Rd_payload_storable (g : GSem nD τ sig) (r : ℕ) (d : Fin 30) :
    BI.Storable (upEmb : UEmb _ 𝕄) ((Rd (F := F) s m).payload g r d) := pay_storable s m d g.1.1

omit [FloatOps F] in
theorem mem_duties (e : Dev nD) (d : Fin 30) : d ∈ (Rd (F := F) s m).duties (cell e d) 0 := by
  show d ∈ (if (0 : ℕ) = 0 ∧ (Proc.tc : Proc τ) = .tc then Finset.univ.filter (fun d' => csem d' = csem d) else ∅)
  rw [if_pos ⟨rfl, rfl⟩, Finset.mem_filter]; exact ⟨Finset.mem_univ _, rfl⟩
omit [FloatOps F] in
theorem duties_eq (e : Dev nD) (j : Fin 20) : (Rd (F := F) s m).duties (kcell (e, j)) 0 = Finset.univ.filter fun d => cix d = j := by
  show (if (0 : ℕ) = 0 ∧ (Proc.tc : Proc τ) = .tc then Finset.univ.filter (fun d' => csem d' = ksem j) else ∅) = _
  rw [if_pos ⟨rfl, rfl⟩]
  exact Finset.filter_congr fun d _ => ksem_inj.eq_iff
omit [FloatOps F] in
theorem duties_later (g : GSem nD τ sig) : ∀ r, 1 ≤ r → (Rd (F := F) s m).duties g r = ∅ :=
  fun r hr => if_neg fun h => by omega

end Contents

/-! ## What a device owes, and the levels of the semaphores -/

section Owed

variable (s : Fin 32)

/-- What device `c` still owes when it has made its duties below `n`: its signals and its transfers' landings from there. -/
def Ow (c : Dev nD) (n : ℕ) : CellTallies nD τ sig Unit :=
  ∑ d ∈ Finset.univ.filter (fun d : Fin 30 => n ≤ d.val ∧ d.val < 21), tallyAt (cell (tgt s c d) d) () (amt d)

/-- Making duty `d` takes it off what is owed. -/
theorem Ow_peel (c : Dev nD) (d : Fin 30) (hd : d.val < 21) : Ow s c d.val = Ow s c (d.val + 1) + tallyAt (cell (tgt s c d) d) () (amt d) := by
  unfold Ow
  have h : (Finset.univ.filter fun d' : Fin 30 => d.val ≤ d'.val ∧ d'.val < 21)
      = insert d (Finset.univ.filter fun d' : Fin 30 => d.val + 1 ≤ d'.val ∧ d'.val < 21) := by
    ext x
    rw [Finset.mem_insert, Finset.mem_filter, Finset.mem_filter, Fin.ext_iff]
    simp only [Finset.mem_univ, true_and]; omega
  rw [h, Finset.sum_insert (fun hx => by rw [Finset.mem_filter] at hx; omega), add_comm]

/-- At the end nothing is owed. -/
theorem Ow_end (c : Dev nD) : Ow s c 21 = 0 := by
  unfold Ow
  rw [Finset.filter_eq_empty_iff.mpr fun d _ h => absurd h.1 (Nat.not_le.mpr h.2), Finset.sum_empty]

/-- What is owed is owed at some duty's cell. -/
theorem Ow_pos {c : Dev nD} {n : ℕ} {g : GSem nD τ sig} {u : Unit} (h : 0 < Ow s c n g u) :
    ∃ d : Fin 30, n ≤ d.val ∧ d.val < 21 ∧ g = cell (tgt s c d) d := by
  unfold Ow at h
  rw [Finset.sum_apply, Finsupp.finset_sum_apply] at h
  obtain ⟨d, hd, hp⟩ := Finset.exists_ne_zero_of_sum_ne_zero (Nat.pos_iff_ne_zero.mp h)
  rw [Finset.mem_filter] at hd
  rw [tallyAt_apply] at hp
  by_cases hg : g = cell (tgt s c d) d ∧ u = ()
  · exact ⟨d, hd.2.1, hd.2.2, hg.1⟩
  · rw [if_neg hg] at hp; exact absurd rfl hp

/-- The cells of the TensorCores have levels. -/
def L (g : GSem nD τ sig) : Finset Unit := if g.1.2 = .tc then {()} else ∅

/-- The levels: send semaphores (and the staging's) 0, the entry barrier 1, the landings of the direct and of the relayed
    chunks 2, the landings of the forwarded chunks 3, the exit barrier 4. A device waits only below all it owes. -/
def lvs : SemLoc sig → ℕ
  | .reg r => if r.val = 0 then 1 else 4
  | .dma q => if q.val = 2 ∨ q.val = 5 ∨ q.val = 6 ∨ q.val = 9 ∨ q.val = 10 then 2
      else if q.val = 13 ∨ q.val = 14 ∨ q.val = 17 ∨ q.val = 18 then 3 else 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device that has made its duties below `n` may wait on a semaphore below those of the duties it still owes. -/
theorem mayWait (c : Dev nD) (n : ℕ) (sm : SemLoc sig) (h : ∀ d : Fin 30, n ≤ d.val → d.val < 21 → lvs sm < lvs (csem d)) :
    (levAts L lv : sProp 𝕄) ⊢ MayWait (c : Thread nD τ) sm () (Ow s c n) :=
  MayOwe.of_cut (L := L) (lev := lv) (lvs sm) (fun p hp => by rw [Finset.mem_singleton.mp hp, L_tc]; exact Finset.mem_singleton_self _)
    (fun g u hg => by obtain ⟨d, _, _, rfl⟩ := Ow_pos s hg; rw [L_tc]; exact Finset.mem_singleton_self _)
    (fun p hp => by rw [Finset.mem_singleton.mp hp]; exact le_refl _)
    (fun g u hg => by obtain ⟨d, h1, h2, rfl⟩ := Ow_pos s hg; exact h d h1 h2)

end Owed

end Cert.Rotate

end
-- ==== Proof.Steps.lean ====
/-
# One step of the body, for each kind of step

What a device holds between two steps: `Own c n`, what it owes for its duties from `n` on with the tokens to make them;
`Wt c i`, its positions (and the credits it was launched with) at the semaphores it waits on from its `i`-th wait on, and the
counters, at zero, of those it has waited on. A signal and a transfer move `n` on by one, a wait moves `i` on by one.
-/
module

public import proofs.«01_k».proof.Proof.Plan

@[expose] public section

noncomputable section

namespace Cert.Rotate

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

section

variable (s : Fin 32) (m : (ℓ : Loc nD τ sig) → Buf (Elt F) ℓ) (K : Dev nD × Fin 20 → ℕ)

/-! ## The shared context -/

/-- Every cell's invariant, under the names `K`, and that round 0 of each is reached. -/
def records : sProp 𝕄 :=
  iprop(bigSep Finset.univ (fun cj : Dev nD × Fin 20 => cellInv ER (Rd (F := F) s m) (K cj) (kcell cj))
    ∗ bigSep Finset.univ (fun cj : Dev nD × Fin 20 => (reached ER (kcell cj) 0 : sProp 𝕄)))
/-- The records and the levels. -/
def ctx : sProp 𝕄 := iprop(records s m K ∗ levAts L lv)

instance records_persistent : BI.Persistent (records (F := F) s m K) := by unfold records; infer_instance
instance ctx_persistent : BI.Persistent (ctx (F := F) s m K) := by unfold ctx; infer_instance

theorem ctx_inv (e : Dev nD) (j : Fin 20) : ctx s m K ⊢ cellInv ER (Rd (F := F) s m) (K (e, j)) (kcell (e, j)) := by
  unfold ctx records
  exact sep_elim_left.trans (sep_elim_left.trans (bigSep_elim (Φ := fun cj : Dev nD × Fin 20 => cellInv ER (Rd (F := F) s m) (K cj) (kcell cj)) (Finset.mem_univ (e, j))))
theorem ctx_reached (e : Dev nD) (j : Fin 20) : ctx s m K ⊢ (reached ER (kcell (e, j)) 0 : sProp 𝕄) := by
  unfold ctx records
  exact sep_elim_left.trans (sep_elim_right.trans (bigSep_elim (Φ := fun cj : Dev nD × Fin 20 => (reached ER (kcell cj) 0 : sProp 𝕄)) (Finset.mem_univ (e, j))))
theorem ctx_lev : ctx s m K ⊢ (levAts L lv : sProp 𝕄) := by
  unfold ctx
  iintro ⟨-, H⟩
  iexact H

/-! ## What is owed, with the tokens to pay it -/

/-- The token of duty `d` that device `c` makes. -/
def tok (c : Dev nD) (d : Fin 30) : sProp 𝕄 := dutyTok ER (cell (tgt s c d) d) 0 d

/-- The duty of a transfer's source read, from that of its landing. -/
def sd (d : Fin 30) : Fin 30 := d + 15

/-- The tokens of payment `d`: a transfer also pays its source read. -/
def tk (c : Dev nD) (d : Fin 30) : sProp 𝕄 :=
  if 6 ≤ d.val ∧ d.val < 15 then iprop(tok (F := F) s c d ∗ tok (F := F) s c (sd d)) else tok s c d

abbrev dueFrom (n : ℕ) : Finset (Fin 30) := Finset.univ.filter fun d => n ≤ d.val ∧ d.val < 21

/-- What device `c` owes for its payments from `n` on, with the tokens to make them. -/
def Own (c : Dev nD) (n : ℕ) : sProp 𝕄 :=
  iprop((∃ W, owes (c : Thread nD τ) (Ow s c n) W) ∗ bigSep (dueFrom n) (fun d => tk (F := F) s c d))

omit [FloatOps F] in
theorem Own_peel (c : Dev nD) (d : Fin 30) (hd : d.val < 21) :
    Own (F := F) s c d.val = iprop((∃ W, owes (c : Thread nD τ) (Ow s c (d.val + 1) + tallyAt (cell (tgt s c d) d) () (amt d)) W)
      ∗ tk (F := F) s c d ∗ bigSep (dueFrom (d.val + 1)) (fun d => tk (F := F) s c d)) := by
  unfold Own
  have h : dueFrom d.val = insert d (dueFrom (d.val + 1)) := by
    ext x
    rw [Finset.mem_insert, Finset.mem_filter, Finset.mem_filter, Fin.ext_iff]
    simp only [Finset.mem_univ, true_and]; omega
  rw [Ow_peel s c d hd, h, bigSep_insert (fun hx => by rw [Finset.mem_filter] at hx; omega)]
  rfl

/-! ## The waits -/

/-- The duty (one of the duties) that the `i`-th wait of the program waits for. -/
def wd : Fin 20 → Fin 30 := ![0, 7, 8, 9, 10, 21, 6, 22, 24, 26, 11, 28, 13, 23, 25, 27, 12, 29, 14, 15]

/-- What the `i`-th wait takes off its semaphore. -/
def wamt (i : Fin 20) : ℕ := if i.val = 0 ∨ i.val = 19 then 6 else amt (wd i)

/-- The `i`-th wait's cell on device `c`. -/
abbrev wcell (c : Dev nD) (i : Fin 20) : GSem nD τ sig := cell c (wd i)

/-- The credit for the `i`-th wait. -/
def wcred (c : Dev nD) (i : Fin 20) : sProp 𝕄 := cred (tallyAt (wcell c i) () (wamt i))

omit [FloatOps F] in
/-- The credit of a transfer's source read is the credit of the wait for it. -/
theorem wcred_of (c : Dev nD) (i : Fin 20) (hi : ¬(i.val = 0 ∨ i.val = 19)) :
    (cred (tallyAt (cell c (wd i)) () (amt (wd i))) : sProp 𝕄) = wcred (F := F) c i := by unfold wcred wamt; rw [if_neg hi]

/-- What the `i`-th wait starts from: the position, and the credit where the launch deals it. -/
def wpre (c : Dev nD) (i : Fin 20) : sProp 𝕄 :=
  iprop(atPos ER (wcell c i) 0 ∅ 0 ∗ if (wd i).val < 21 then wcred (F := F) c i else iprop(emp))

def Wt (c : Dev nD) (n : ℕ) : sProp 𝕄 :=
  iprop(bigSep (Finset.univ.filter fun i : Fin 20 => n ≤ i.val) (fun i => wpre (F := F) c i)
    ∗ bigSep (Finset.univ.filter fun i : Fin 20 => i.val < n) (fun i => (semVal (wcell c i) 0 : sProp 𝕄)))

omit [FloatOps F] in
theorem Wt_peel (c : Dev nD) (i : Fin 20) :
    Wt (F := F) c i.val = iprop((wpre (F := F) c i ∗ bigSep (Finset.univ.filter fun i' : Fin 20 => i.val + 1 ≤ i'.val) (fun i => wpre (F := F) c i))
      ∗ bigSep (Finset.univ.filter fun i' : Fin 20 => i'.val < i.val) (fun i => (semVal (wcell c i) 0 : sProp 𝕄))) := by
  unfold Wt
  have h : (Finset.univ.filter fun i' : Fin 20 => i.val ≤ i'.val) = insert i (Finset.univ.filter fun i' : Fin 20 => i.val + 1 ≤ i'.val) := by
    ext x
    rw [Finset.mem_insert, Finset.mem_filter, Finset.mem_filter, Fin.ext_iff]
    simp only [Finset.mem_univ, true_and]; omega
  rw [h, bigSep_insert (fun hx => by rw [Finset.mem_filter] at hx; omega)]
  rfl
omit [FloatOps F] in
theorem Wt_push (c : Dev nD) (i : Fin 20) :
    Wt (F := F) c (i.val + 1) = iprop(bigSep (Finset.univ.filter fun i' : Fin 20 => i.val + 1 ≤ i'.val) (fun i => wpre (F := F) c i)
      ∗ (semVal (wcell c i) 0 ∗ bigSep (Finset.univ.filter fun i' : Fin 20 => i'.val < i.val) (fun i => (semVal (wcell c i) 0 : sProp 𝕄)))) := by
  unfold Wt
  have h : (Finset.univ.filter fun i' : Fin 20 => i'.val < i.val + 1) = insert i (Finset.univ.filter fun i' : Fin 20 => i'.val < i.val) := by
    ext x
    rw [Finset.mem_insert, Finset.mem_filter, Finset.mem_filter, Fin.ext_iff]
    simp only [Finset.mem_univ, true_and]; omega
  rw [h, bigSep_insert (fun hx => by rw [Finset.mem_filter] at hx; omega)]
  rfl

/-- The duties of the `i`-th wait's semaphore: six for a barrier, else the one it waits for. -/
theorem wait_duties (i : Fin 20) : (Finset.univ.filter fun d : Fin 30 => cix d = cix (wd i))
    = if i.val = 0 then {0, 1, 2, 3, 4, 5} else if i.val = 19 then {15, 16, 17, 18, 19, 20} else {wd i} := by
  revert i; decide

omit [FloatOps F] in
theorem expect_eq (c : Dev nD) (i : Fin 20) : (Rd (F := F) s m).expect (wcell c i) 0 = wamt i := by
  unfold Schedule.expect Schedule.amountOf
  rw [show (Rd (F := F) s m).duties (wcell c i) 0 = _ from duties_eq s m c (cix (wd i)), wait_duties]
  unfold wamt
  show (∑ d ∈ _, amt d) = _
  by_cases h0 : i.val = 0
  · rw [if_pos h0, if_pos (Or.inl h0)]; rfl
  · by_cases h1 : i.val = 19
    · rw [if_neg h0, if_pos h1, if_pos (Or.inr h1)]; rfl
    · rw [if_neg h0, if_neg h1, if_neg (fun h => h.elim h0 h1), Finset.sum_singleton]

/-- What the `i`-th wait brings. -/
def got (c : Dev nD) (i : Fin 20) : sProp 𝕄 :=
  if i.val = 0 then iprop(fillS (F := F) s c ∗ fill1 (F := F) c ∗ fillP (F := F) s c) else if i.val = 19 then iprop(emp) else pay s m (wd i) c

omit [FloatOps F] in
theorem got_of_rest (c : Dev nD) (i : Fin 20) :
    bigSep ((Rd (F := F) s m).duties (wcell c i) 0 \ ∅) (fun d => (Rd (F := F) s m).payload (wcell c i) 0 d) ⊢ got s m c i := by
  rw [Finset.sdiff_empty, show (Rd (F := F) s m).duties (wcell c i) 0 = _ from duties_eq s m c (cix (wd i)), wait_duties]
  unfold got
  show bigSep _ (fun d => pay s m d c) ⊢ _
  by_cases h0 : i.val = 0
  · rw [if_pos h0, if_pos h0]
    refine (bigSep_subset (t := {3, 4, 5}) (by decide)).trans ?_
    rw [bigSep_insert (by decide), bigSep_insert (by decide), bigSep_singleton]
    exact BI.Entails.refl _
  · by_cases h1 : i.val = 19
    · rw [if_neg h0, if_pos h1, if_neg h0, if_pos h1]
      iintro -; iempintro
    · rw [if_neg h0, if_neg h1, if_neg h0, if_neg h1, bigSep_singleton]

/-! ## The steps -/

local notation "wpt" c => wp frame (wpE (defs₀ (F := F)) 𝒱₀ (Dev.tc c : Thread nD τ) none) Set.univ

set_option maxRecDepth 20000 in
/-- A signal: duty `d` is made, its payload handed over. -/
theorem step_signal {α : Type} {Q : α → sProp 𝕄} {k : PUnit → Prog (TpuEff nD τ sig (Elt F) Λ₀ .tc) α}
    (c : Dev nD) (d : Fin 30) (hd : d.val < 6 ∨ 15 ≤ d.val ∧ d.val < 21) (n : Dev nD) (hn : n = tgt s c d)
    (sem : Sem sig) (hsem : csem d = .reg sem) :
    iprop(ctx s m K ∗ Own (F := F) s c d.val ∗ pay s m d (tgt s c d))
      ⊢ iprop((Own (F := F) s c (d.val + 1) -∗ (wpt c) (k ⟨⟩) Q)
        -∗ (wpt c) (.op (.semSignal (n, .tc) sem (1#32 : BitVec 32).toInt) k) Q) := by
  subst hn
  have ha : amt d = 1 := if_pos hd
  have hlt : d.val < 21 := by omega
  rw [Own_peel s c d hlt, ha, show tk (F := F) s c d = tok s c d from if_neg (by omega)]
  unfold tok Own
  iintro ⟨#Hctx, ⟨⟨%W, HO⟩, Ht, Hts⟩, Hpay⟩ Hk
  ihave #HI := (ctx_inv s m K (tgt s c d) (cix d)) $$ Hctx
  ihave #Hr := (ctx_reached s m K (tgt s c d) (cix d)) $$ Hctx
  have hc : cell (tgt s c d) d = ((tgt s c d : Thread nD τ), .reg sem) := by unfold cell; rw [hsem]
  have hk' : kcell (tgt s c d, cix d) = ((tgt s c d : Thread nD τ), .reg sem) := hc
  rw [hk', hc]
  iapply (Rounds.wp_signal (k' := 1) 𝒱₀ ER (Rd s m) (c : Thread nD τ) none (dst := (tgt s c d : Thread nD τ)) (sem := sem) (κ := K (tgt s c d, cix d)) (r := 0)
      (d := d) (by have := mem_duties s m (tgt s c d) d; rwa [hc] at this) ha () (Ow s c (d.val + 1)) rfl) $$ [HO Ht Hpay]
  · isplitr; · iexact HI
    isplitl [HO]; · iexact HO
    isplitl [Ht]; · iexact Ht
    isplitl [Hpay]; · iapply (show pay s m d (tgt s c d) ⊢ (Rd s m).payload ((tgt s c d : Thread nD τ), .reg sem) 0 d from BI.Entails.refl _); iexact Hpay
    iexact Hr
  iintro HO
  iapply Hk
  isplitl [HO]
  · iexists W; iexact HO
  iexact Hts

set_option maxRecDepth 20000 in
/-- A wait, with its credit: the semaphore's round ends and the semaphore closes; the payloads come back. -/
theorem step_wait_core {α : Type} {Q : α → sProp 𝕄} {k : PUnit → Prog (TpuEff nD τ sig (Elt F) Λ₀ .tc) α}
    (c : Dev nD) (i : Fin 20) (n : ℕ) (hn : ∀ d : Fin 30, n ≤ d.val → d.val < 21 → lvs (csem (wd i)) < lvs (csem d))
    {w : TpuEff nD τ sig (Elt F) Λ₀ .tc PUnit} {sm : SemLoc sig} {k' : ℕ}
    (hw : ∀ K : PUnit → sProp 𝕄, wpE (defs₀ (F := F)) 𝒱₀ (Dev.tc c : Thread nD τ) none Set.univ w K = waitSpec (Dev.tc c : Thread nD τ) Set.univ sm k' K)
    (hsm : csem (wd i) = sm) (hk' : wamt i = k') :
    iprop(ctx s m K ∗ Own (F := F) s c n ∗ atPos ER (wcell c i) 0 ∅ 0 ∗ wcred (F := F) c i)
      ⊢ iprop(((Own (F := F) s c n ∗ semVal (wcell c i) 0 ∗ got s m c i) -∗ (wpt c) (k ⟨⟩) Q) -∗ (wpt c) (.op w k) Q) := by
  subst hsm hk'
  unfold Own wcred
  iintro ⟨#Hctx, ⟨⟨%W, HO⟩, Hts⟩, Hat, Hc⟩ Hk
  ihave #HI := (ctx_inv s m K c (cix (wd i))) $$ Hctx
  ihave #Hlev := (ctx_lev s m K) $$ Hctx
  iapply (Rounds.wp_wait_rest_token 𝒱₀ ER (Rd s m) (c : Thread nD τ) none (κ := K (c, cix (wd i)))
      hw (Set.mem_univ _) () (O := Ow s c n) (W := W) (R := 0) (m := 0) (T := ∅)
      (by rw [Nat.zero_add]; exact (expect_eq s m c i).symm)) $$ [Hc HO Hat]
  · isplitr; · iexact HI
    isplitl [Hc]; · iexact Hc
    isplitl [HO]; · iexact HO
    isplitr; · iapply (mayWait s c n (csem (wd i)) hn); iexact Hlev
    iexact Hat
  iintro ⟨HO, Hat, -, Hpay⟩
  ihave Hp := (got_of_rest s m c i) $$ Hpay
  imod (Rounds.cell_close ER (Rd s m) (Set.mem_univ (K (c, cix (wd i)))) (fun h => h) (R := 0 + 1) (duties_later s m (wcell c i))) $$ [Hat] with Hz
  · isplitr; · iexact HI
    iexact Hat
  iapply Hk
  isplitl [HO Hts]
  · isplitl [HO]
    · iexists _; iexact HO
    iexact Hts
  isplitl [Hz] <;> iassumption

/-- A wait whose credit the launch dealt. -/
theorem step_wait {α : Type} {Q : α → sProp 𝕄} {k : PUnit → Prog (TpuEff nD τ sig (Elt F) Λ₀ .tc) α}
    (c : Dev nD) (i : Fin 20) (hi : (wd i).val < 21) (n : ℕ) (hn : ∀ d : Fin 30, n ≤ d.val → d.val < 21 → lvs (csem (wd i)) < lvs (csem d))
    {w : TpuEff nD τ sig (Elt F) Λ₀ .tc PUnit} {sm : SemLoc sig} {k' : ℕ}
    (hw : ∀ K : PUnit → sProp 𝕄, wpE (defs₀ (F := F)) 𝒱₀ (Dev.tc c : Thread nD τ) none Set.univ w K = waitSpec (Dev.tc c : Thread nD τ) Set.univ sm k' K)
    (hsm : csem (wd i) = sm) (hk' : wamt i = k') :
    iprop(ctx s m K ∗ Own (F := F) s c n ∗ Wt (F := F) c i.val)
      ⊢ iprop(((Own (F := F) s c n ∗ Wt (F := F) c (i.val + 1) ∗ got s m c i) -∗ (wpt c) (k ⟨⟩) Q) -∗ (wpt c) (.op w k) Q) := by
  rw [Wt_peel, Wt_push]; unfold wpre; rw [if_pos hi]
  iintro ⟨Hctx, HO, ⟨⟨Hat, Hc⟩, Hw⟩, Hz⟩ Hk
  iapply (step_wait_core s m K c i n hn hw hsm hk') $$ [Hctx HO Hat Hc]
  · isplitl [Hctx]; · iexact Hctx
    isplitl [HO]; · iexact HO
    isplitl [Hat] <;> iassumption
  iintro ⟨HO, Hz', Hg⟩
  iapply Hk
  isplitl [HO]; · iexact HO
  isplitr [Hg]
  · isplitl [Hw]; · iexact Hw
    isplitl [Hz'] <;> iassumption
  iexact Hg

/-- A wait on a send semaphore, whose credit the transfer gave. -/
theorem step_wait_send {α : Type} {Q : α → sProp 𝕄} {k : PUnit → Prog (TpuEff nD τ sig (Elt F) Λ₀ .tc) α}
    (c : Dev nD) (i : Fin 20) (hi : 21 ≤ (wd i).val) (n : ℕ) (hn : ∀ d : Fin 30, n ≤ d.val → d.val < 21 → lvs (csem (wd i)) < lvs (csem d))
    {w : TpuEff nD τ sig (Elt F) Λ₀ .tc PUnit} {sm : SemLoc sig} {k' : ℕ}
    (hw : ∀ K : PUnit → sProp 𝕄, wpE (defs₀ (F := F)) 𝒱₀ (Dev.tc c : Thread nD τ) none Set.univ w K = waitSpec (Dev.tc c : Thread nD τ) Set.univ sm k' K)
    (hsm : csem (wd i) = sm) (hk' : wamt i = k') :
    iprop(ctx s m K ∗ Own (F := F) s c n ∗ Wt (F := F) c i.val ∗ wcred (F := F) c i)
      ⊢ iprop(((Own (F := F) s c n ∗ Wt (F := F) c (i.val + 1) ∗ got s m c i) -∗ (wpt c) (k ⟨⟩) Q) -∗ (wpt c) (.op w k) Q) := by
  rw [Wt_peel, Wt_push]; unfold wpre; rw [if_neg (Nat.not_lt.mpr hi)]
  iintro ⟨Hctx, HO, ⟨⟨⟨Hat, -⟩, Hw⟩, Hz⟩, Hc⟩ Hk
  iapply (step_wait_core s m K c i n hn hw hsm hk') $$ [Hctx HO Hat Hc]
  · isplitl [Hctx]; · iexact Hctx
    isplitl [HO]; · iexact HO
    isplitl [Hat] <;> iassumption
  iintro ⟨HO, Hz', Hg⟩
  iapply Hk
  isplitl [HO]; · iexact HO
  isplitr [Hg]
  · isplitl [Hw]; · iexact Hw
    isplitl [Hz'] <;> iassumption
  iexact Hg

/-- A transfer: the landing's duty `d` and the source read's duty are made by the hardware. The source comes in as it is to be
    handed back; the destination's rows, rewritten with it, are what the landing hands over. -/
theorem step_send {α : Type} {Q : α → sProp 𝕄} {k : PUnit → Prog (TpuEff nD τ sig (Elt F) Λ₀ .tc) α}
    (c : Dev nD) (d d' : Fin 30) (hdd : d' = sd d) (hd : 6 ≤ d.val ∧ d.val < 15) (n : Dev nD) (hn : n = tgt s c d)
    {sp sp' : Space} {z : Shape} {e : EltTy} {src : Memref sig .tc sp z e} {dst : Memref sig (Dev.tc n : Thread nD τ).2.kind sp' z e}
    {hsc : dst.view.ref.isScScratch = false} {qS qR : DmaSem sig} {hsrc : src.view.WordExact} {hdst : dst.view.WordExact}
    {hsem : DmaTarget.Typed sp (.dma qR) (.remote (Dev.tc n : Thread nD τ) dst (.dma qS) hsc)}
    (hS : csem d' = .dma qS) (hR : csem d = .dma qR) (hN : dst.view.dmaCredit = amt d)
    (fs : Buf (Elt F) (src.view.loc (Dev.tc c : Thread nD τ))) (fd : Buf (Elt F) (dst.view.loc (Dev.tc n : Thread nD τ)))
    (hp₁ : (src.view.loc (Dev.tc c : Thread nD τ) ↦[src.view.set]{fullShare} fs) = pay s m d' c)
    (hp₂ : (dst.view.loc (Dev.tc n : Thread nD τ) ↦[dst.view.set]{fullShare} (dst.view.write (Elt F) fd (src.view.read (Elt F) fs) Finset.univ)) ⊢ pay s m d n) :
    iprop(ctx s m K ∗ Own (F := F) s c d.val ∗ pay s m d' c ∗ (dst.view.loc (Dev.tc n : Thread nD τ) ↦[dst.view.set]{fullShare} fd))
      ⊢ iprop(((Own (F := F) s c (d.val + 1) ∗ cred (tallyAt (cell c d') () (amt d'))) -∗ (wpt c) (k ⟨⟩) Q)
        -∗ (wpt c) (.op (.enqueueDma src (.remote (Dev.tc n : Thread nD τ) dst (.dma qS) hsc) (.dma qR) hsrc hdst hsem) k) Q) := by
  subst hdd
  subst hn
  have hsd : disp s (sd d) = 0 := by
    have : ∀ d : Fin 30, 6 ≤ d.val ∧ d.val < 15 → 21 ≤ (sd d).val := by decide
    have h0 : ∀ d : Fin 30, 21 ≤ d.val → disp s d = 0 := by
      intro d h; unfold disp; fin_cases d <;> first | rfl | (exfalso; revert h; decide)
    exact h0 _ (this d hd)
  have ht : tgt s c (sd d) = c := by show (show Fin 32 from c) + disp s (sd d) = c; rw [hsd]; exact Fin.add_zero (show Fin 32 from c)
  have hasd : amt (sd d) = amt d := by
    have : ∀ d : Fin 30, 6 ≤ d.val ∧ d.val < 15 → ((sd d).val = 21 ↔ d.val = 6) ∧ ¬((sd d).val < 6 ∨ 15 ≤ (sd d).val ∧ (sd d).val < 21) ∧ (sd d).val ≠ 6 := by decide
    obtain ⟨h1, h2, h3⟩ := this d hd
    unfold amt
    have h4 : ¬(d.val < 6 ∨ 15 ≤ d.val ∧ d.val < 21) := by omega
    rw [if_neg h2, if_neg h4]
    by_cases h6 : d.val = 6
    · rw [if_pos (Or.inr (h1.mpr h6)), if_pos (Or.inl h6)]
    · have h5 : ¬((sd d).val = 6 ∨ (sd d).val = 21) := fun h => h.elim h3 (fun h => h6 (h1.mp h))
      have h7 : ¬(d.val = 6 ∨ d.val = 21) := by omega
      rw [if_neg h5, if_neg h7]
  rw [Own_peel s c d (by omega), show tk (F := F) s c d = _ from if_pos hd]
  unfold tok Own
  rw [ht, hasd]
  iintro ⟨#Hctx, ⟨⟨%W, HO⟩, ⟨Ht, HtS⟩, Hts⟩, Hsrc, Hdst⟩ Hk
  ihave #HI := (ctx_inv s m K (tgt s c d) (cix d)) $$ Hctx
  ihave #Hr := (ctx_reached s m K (tgt s c d) (cix d)) $$ Hctx
  ihave #HIs := (ctx_inv s m K c (cix (sd d))) $$ Hctx
  ihave #Hrs := (ctx_reached s m K c (cix (sd d))) $$ Hctx
  have hc : cell (tgt s c d) d = ((tgt s c d : Thread nD τ), .dma qR) := by unfold cell; rw [hR]
  have hk' : kcell (tgt s c d, cix d) = ((tgt s c d : Thread nD τ), .dma qR) := hc
  have hcs : cell c (sd d) = ((c : Thread nD τ), .dma qS) := by unfold cell; rw [hS]
  have hks : kcell (c, cix (sd d)) = ((c : Thread nD τ), .dma qS) := hcs
  rw [hk', hc, hks, hcs]
  iapply (Rounds.wp_send_pointsTo 𝒱₀ ER (Rd s m) (c : Thread nD τ) none (κ₁ := K (c, cix (sd d))) (κ₂ := K (tgt s c d, cix d))
    (r₁ := 0) (r₂ := 0) (d₁ := sd d) (d₂ := d) (fs := fs) (fd := fd) (q := fullShare)
    (by have := mem_duties s m c (sd d); rwa [hcs] at this) (by have := mem_duties s m (tgt s c d) d; rwa [hc] at this)
    () () (amt d) (sem := .dma qR) (sS := .dma qS) hN hasd rfl (Ow s c (d.val + 1)) rfl (W := W) (Entails.of_eq hp₁) hp₂) $$ [Hsrc Hdst HO Ht HtS]
  · isplitr; · iexact HIs
    isplitr; · iexact HI
    isplitl [Hsrc]; · iapply (Entails.of_eq hp₁.symm); iexact Hsrc
    isplitl [Hdst]; · iexact Hdst
    isplitl [HO]; · iexact HO
    isplitl [HtS]; · iexact HtS
    isplitr; · iexact Hrs
    isplitl [Ht]; · iexact Ht
    iexact Hr
  iintro ⟨Hc, HO⟩
  iapply Hk
  isplitr [Hc]
  · isplitl [HO]
    · iexists W; iexact HO
    iexact Hts
  iexact Hc

end

end Cert.Rotate

end
-- ==== Proof.Copies.lean ====
/-
# The nine transfers

For each of the three kinds of transfer — block to result, block to relay, relay to result — that the rows written at the
target are the rows it is to hold; then the step of a transfer of that kind.
-/
module

public import proofs.«01_k».proof.Proof.Steps
public import Idealize.ShloMosaic.Lib.Pipeline.ValueKit.Geometry

@[expose] public section

noncomputable section

namespace Cert.Rotate

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- Through a view, what is written is determined by what is read back through it. -/
theorem copy_congr {sp : Space} {z : Shape} {e : EltTy} (v : View sig .tc sp z e) (n : Dev nD)
    (fd g : Buf (Elt F) (v.loc (Dev.tc n : Thread nD τ))) (w : z.Idx → Elt F e) (h : ∀ x, v.read (Elt F) g x = w x) :
    (v.loc (Dev.tc n : Thread nD τ) ↦[v.set]{fullShare} (v.write (Elt F) fd w Finset.univ) : sProp 𝕄)
      = (v.loc (Dev.tc n : Thread nD τ) ↦[v.set]{fullShare} g) := by
  refine pointsTo_congr fun i hi => ?_
  rw [View.set] at hi
  obtain ⟨x, -, rfl⟩ := Finset.mem_map.mp hi
  rw [View.write_emb_of_mem _ _ (Finset.mem_univ x), ← h x, View.read_apply, cast_cast, cast_eq]

/-- Rows `o`, …, `o + n - 1` lie inside a buffer of 2048 rows, of 1024 rows. -/
abbrev InB (o n : ℕ) : Prop := ∀ a, (![0, o, 0] : Fin 3 → ℕ) a + (![1, n, 1024] : Fin 3 → ℕ) a ≤ S1x2048x1024.size a
abbrev InR (o n : ℕ) : Prop := ∀ a, (![0, o, 0] : Fin 3 → ℕ) a + (![1, n, 1024] : Fin 3 → ℕ) a ≤ S1x1024x1024.size a

/-- Rows `o`, …, `o + n - 1` of the input block, of the result, of the relay buffer, as the program names them. -/
abbrev xM (o n : ℕ) (inb : InB o n) : Memref sig .tc .hbm ⟨3, ![1, n, 1024]⟩ .f32 :=
  (Memref.whole main_arg0).slice (Rect.unit (s := S1x2048x1024) ![0, o, 0] ![1, n, 1024] inb) (fun _ => rfl)
abbrev outM (o n : ℕ) (inb : InB o n) : Memref sig .tc .hbm ⟨3, ![1, n, 1024]⟩ .f32 :=
  (Memref.whole main_v1).slice (Rect.unit (s := S1x2048x1024) ![0, o, 0] ![1, n, 1024] inb) (fun _ => rfl)
abbrev relM (o n : ℕ) (inb : InR o n) : Memref sig .tc .vmem ⟨3, ![1, n, 1024]⟩ .f32 :=
  (Memref.whole cc0_scratch0).slice (Rect.unit (s := S1x1024x1024) ![0, o, 0] ![1, n, 1024] inb) (fun _ => rfl)

theorem xM_set (o n : ℕ) (inb) : (xM o n inb).view.set = rows zb o n := (View.set_slice_whole _ _).trans (rect_rows (z := zb) o n inb)
theorem outM_set (o n : ℕ) (inb) : (outM o n inb).view.set = rows zb o n := (View.set_slice_whole _ _).trans (rect_rows (z := zb) o n inb)
theorem relM_set (o n : ℕ) (inb) : (relM o n inb).view.set = rows zr o n := (View.set_slice_whole _ _).trans (rect_rows (z := zr) o n inb)

/-- Their index `x` is the buffer's index `x`, `o` rows down. -/
theorem xM_emb (o n : ℕ) (inb) (x : (⟨3, ![1, n, 1024]⟩ : Shape).Idx) (a : Fin 3) :
    ((xM o n inb).view.emb x a : ℕ) = (![0, o, 0] : Fin 3 → ℕ) a + (x a).val := ValueKit.view_emb_slice_whole_unit_val main_arg0 _ _ _ x a
theorem outM_emb (o n : ℕ) (inb) (x : (⟨3, ![1, n, 1024]⟩ : Shape).Idx) (a : Fin 3) :
    ((outM o n inb).view.emb x a : ℕ) = (![0, o, 0] : Fin 3 → ℕ) a + (x a).val := ValueKit.view_emb_slice_whole_unit_val main_v1 _ _ _ x a
theorem relM_emb (o n : ℕ) (inb) (x : (⟨3, ![1, n, 1024]⟩ : Shape).Idx) (a : Fin 3) :
    ((relM o n inb).view.emb x a : ℕ) = (![0, o, 0] : Fin 3 → ℕ) a + (x a).val := ValueKit.view_emb_slice_whole_unit_val cc0_scratch0 _ _ _ x a

section

variable (s : Fin 32) (m : (ℓ : Loc nD τ sig) → Buf (Elt F) ℓ) (K : Dev nD × Fin 20 → ℕ)

omit [FloatOps F] in
theorem xP_eq (c : Dev nD) (o n : ℕ) (inb) (f) :
    ((xM o n inb).view.loc (Dev.tc c : Thread nD τ) ↦[(xM o n inb).view.set]{fullShare} f : sProp 𝕄) = xP c o n f := by
  rw [xM_set]; rfl
omit [FloatOps F] in
theorem outP_eq (c : Dev nD) (o n : ℕ) (inb) (f) :
    ((outM o n inb).view.loc (Dev.tc c : Thread nD τ) ↦[(outM o n inb).view.set]{fullShare} f : sProp 𝕄) = outP c o n f := by
  rw [outM_set]; rfl
omit [FloatOps F] in
theorem relP_eq (c : Dev nD) (o n : ℕ) (inb) (f) :
    ((relM o n inb).view.loc (Dev.tc c : Thread nD τ) ↦[(relM o n inb).view.set]{fullShare} f : sProp 𝕄) = relP c o n f := by
  rw [relM_set]; rfl

/-! ## What lands -/

omit [FloatOps F] in
/-- Rows of device `c`'s block, landed on the same rows of device `n`'s result, `n` being `c + s`. -/
theorem landed_out (c n : Dev nD) (hn : (show Fin 32 from n) - s = c) (o k : ℕ) (inb inb') (fd) :
    ((outM o k inb').view.loc (Dev.tc n : Thread nD τ) ↦[(outM o k inb').view.set]{fullShare}
        ((outM o k inb').view.write (Elt F) fd ((xM o k inb).view.read (Elt F) (X m c)) Finset.univ) : sProp 𝕄) = outP n o k (outF s m n) := by
  rw [← outP_eq n o k inb']
  refine copy_congr (outM _ k inb').view n fd (outF s m n) _ fun x => ?_
  rw [View.read_apply, View.read_apply]
  show outF s m n _ = X m c _
  unfold outF; rw [hn]
  refine congrArg (X m c) (funext fun a => Fin.ext ?_)
  exact (outM_emb o k inb' x a).trans (xM_emb o k inb x a).symm

omit [FloatOps F] in
/-- Rows of device `c`'s block, landed 1024 rows further up in device `n`'s relay buffer. -/
theorem landed_rel (c n : Dev nD) (o o' k : ℕ) (ho : o = o' + 1024)
    (hn : (o' + k ≤ 512 ∧ (show Fin 32 from n) - 1 = c) ∨ (512 ≤ o' ∧ (show Fin 32 from n) - (s - 1) = c)) (inb inb') (fd) :
    ((relM o' k inb').view.loc (Dev.tc n : Thread nD τ) ↦[(relM o' k inb').view.set]{fullShare}
        ((relM o' k inb').view.write (Elt F) fd ((xM o k inb).view.read (Elt F) (X m c)) Finset.univ) : sProp 𝕄) = relP n o' k (relF s m n) := by
  rw [← relP_eq n o' k inb']
  refine copy_congr (relM _ k inb').view n fd (relF s m n) _ fun x => ?_
  rw [View.read_apply, View.read_apply]
  show relF s m n _ = X m c _
  have h1 : (((relM o' k inb').view.emb x : S1x1024x1024.Idx) 1).val = o' + (x 1).val := relM_emb o' k inb' x 1
  have hx : (x 1).val < k := (x 1).isLt
  have hd : down ((relM o' k inb').view.emb x) = ((xM o k inb).view.emb x : S1x2048x1024.Idx) := by
    refine funext fun a => Fin.ext ?_
    have e := xM_emb o k inb x a
    have e' := relM_emb o' k inb' x a
    match a with
    | ⟨0, _⟩ => exact e'.trans e.symm
    | ⟨1, _⟩ =>
      refine Eq.trans ?_ e.symm
      show (((relM o' k inb').view.emb x : S1x1024x1024.Idx) 1).val + 1024 = o + (x 1).val
      rw [h1, ho]; omega
    | ⟨2, _⟩ => exact e'.trans e.symm
  unfold relF
  rcases hn with ⟨hk, hn⟩ | ⟨hk, hn⟩
  · rw [if_pos (by rw [h1]; omega), hd, hn]
  · rw [if_neg (by rw [h1]; omega), hd, hn]

omit [FloatOps F] in
/-- Rows of device `c`'s filled relay buffer, landed 1024 rows further down in device `n`'s result. -/
theorem landed_fwd (c n : Dev nD) (o o' k : ℕ) (ho : o' = o + 1024)
    (hn : (o + k ≤ 512 ∧ (show Fin 32 from n) - s = (show Fin 32 from c) - 1) ∨ (512 ≤ o ∧ (show Fin 32 from n) - s = (show Fin 32 from c) - (s - 1))) (inb inb') (fd) :
    ((outM o' k inb').view.loc (Dev.tc n : Thread nD τ) ↦[(outM o' k inb').view.set]{fullShare}
        ((outM o' k inb').view.write (Elt F) fd ((relM o k inb).view.read (Elt F) (relF s m c)) Finset.univ) : sProp 𝕄) = outP n o' k (outF s m n) := by
  rw [← outP_eq n o' k inb']
  refine copy_congr (outM _ k inb').view n fd (outF s m n) _ fun x => ?_
  rw [View.read_apply, View.read_apply]
  show outF s m n _ = relF s m c _
  have h1 : (((relM o k inb).view.emb x : S1x1024x1024.Idx) 1).val = o + (x 1).val := relM_emb o k inb x 1
  have hx : (x 1).val < k := (x 1).isLt
  have hd : down ((relM o k inb).view.emb x) = ((outM o' k inb').view.emb x : S1x2048x1024.Idx) := by
    refine funext fun a => Fin.ext ?_
    have e := outM_emb o' k inb' x a
    have e' := relM_emb o k inb x a
    match a with
    | ⟨0, _⟩ => exact e'.trans e.symm
    | ⟨1, _⟩ =>
      refine Eq.trans ?_ e.symm
      show (((relM o k inb).view.emb x : S1x1024x1024.Idx) 1).val + 1024 = o' + (x 1).val
      rw [h1, ho]; omega
    | ⟨2, _⟩ => exact e'.trans e.symm
  unfold relF outF
  rcases hn with ⟨hk, hn⟩ | ⟨hk, hn⟩
  · rw [if_pos (by rw [h1]; omega), hd, hn]
  · rw [if_neg (by rw [h1]; omega), hd, hn]

/-! ## The transfers' steps -/

local notation "wpt" c => wp frame (wpE (defs₀ (F := F)) 𝒱₀ (Dev.tc c : Thread nD τ) none) Set.univ

theorem amt_chunk (d : Fin 30) (h : 7 ≤ d.val ∧ d.val < 15) : amt d = NC := by
  have h1 : ¬(d.val < 6 ∨ 15 ≤ d.val ∧ d.val < 21) := by omega
  have h2 : ¬(d.val = 6 ∨ d.val = 21) := by omega
  unfold amt; rw [if_neg h1, if_neg h2]
theorem amt_direct : amt 6 = NB := by unfold amt; rw [if_neg (by decide), if_pos (by decide)]

theorem out_credit (inb) : (outM 0 1024 inb).view.dmaCredit = amt 6 := by rw [amt_direct]

theorem rel_credit (o : ℕ) (inb) (d : Fin 30) (h : 7 ≤ d.val ∧ d.val < 15) : (relM o 256 inb).view.dmaCredit = amt d := by rw [amt_chunk d h]
theorem chunk_credit (o : ℕ) (inb) (d : Fin 30) (h : 7 ≤ d.val ∧ d.val < 15) : (outM o 256 inb).view.dmaCredit = amt d := by rw [amt_chunk d h]

theorem add_sub_self32 : ∀ a b : Fin 32, a + b - b = a := by decide
theorem fwd_right : ∀ a b : Fin 32, a + 1 - b = a - (b - 1) := by decide
theorem fwd_prev : ∀ a b : Fin 32, a + (b - 1) - b = a - 1 := by decide

omit [FloatOps F] in
theorem pay_direct (e : Dev nD) : pay s m 6 e = outP e 0 1024 (outF s m e) := rfl
omit [FloatOps F] in
theorem pay_source (e : Dev nD) : pay s m 21 e = xP e 0 1024 (X m e) := rfl

/-- The direct transfer (duty 6): rows 0–1023 to device `c + s`. -/
theorem step_direct {α : Type} {Q : α → sProp 𝕄} {k : PUnit → Prog (TpuEff nD τ sig (Elt F) Λ₀ .tc) α}
    (c : Dev nD) (n : Dev nD) (hn : n = tgt s c 6) (inb inb') {qS qR : DmaSem sig} {hsc : (outM 0 1024 inb').view.ref.isScScratch = false} {hsrc : (xM 0 1024 inb).view.WordExact} {hdst : (outM 0 1024 inb').view.WordExact}
    {hsem : DmaTarget.Typed .hbm (.dma qR) (.remote (Dev.tc n : Thread nD τ) (outM 0 1024 inb') (.dma qS) hsc)}
    (hS : csem 21 = .dma qS) (hR : csem 6 = .dma qR) (fd) :
    iprop(ctx s m K ∗ Own (F := F) s c 6 ∗ xP c 0 1024 (X m c) ∗ outP (F := F) (tgt s c 6) 0 1024 fd)
      ⊢ iprop(((Own (F := F) s c 7 ∗ cred (tallyAt (cell c 21) () (amt 21))) -∗ (wpt c) (k ⟨⟩) Q)
        -∗ (wpt c) (.op (.enqueueDma (xM 0 1024 inb) (.remote (Dev.tc n : Thread nD τ) (outM 0 1024 inb') (.dma qS) hsc) (.dma qR) hsrc hdst hsem) k) Q) := by
  subst hn
  rw [← outP_eq _ 0 1024 inb', ← pay_source s m c]
  have h1 := (xP_eq c 0 1024 inb (X m c)).trans (pay_source s m c).symm
  have h2 := Entails.of_eq ((landed_out s m c (tgt s c 6) (add_sub_self32 c s) 0 1024 inb inb' fd).trans (pay_direct s m _).symm)
  have h3 := out_credit inb'
  exact step_send (src := xM 0 1024 inb) (dst := outM 0 1024 inb') (hsc := hsc) (hsrc := hsrc) (hdst := hdst) (hsem := hsem) (Q := Q) (k := k)
    s m K c 6 21 rfl (by decide) (tgt s c 6) rfl hS hR h3 (X m c) fd h1 h2

/-- A transfer of 256 rows of the block to a relay buffer (duties 7–10). -/
theorem step_rel {α : Type} {Q : α → sProp 𝕄} {k : PUnit → Prog (TpuEff nD τ sig (Elt F) Λ₀ .tc) α}
    (c : Dev nD) (d d' : Fin 30) (hdd : d' = sd d) (hd : 7 ≤ d.val ∧ d.val < 11) (n : Dev nD) (hn : n = tgt s c d)
    (o o' : ℕ) (ho : o = o' + 1024) (inb inb') {qS qR : DmaSem sig} {hsc : (relM o' 256 inb').view.ref.isScScratch = false} {hsrc : (xM o 256 inb).view.WordExact} {hdst : (relM o' 256 inb').view.WordExact}
    {hsem : DmaTarget.Typed .hbm (.dma qR) (.remote (Dev.tc n : Thread nD τ) (relM o' 256 inb') (.dma qS) hsc)}
    (hS : csem d' = .dma qS) (hR : csem d = .dma qR)
    (hpx : ∀ e, pay s m d' e = xP e o 256 (X m e)) (hpr : ∀ e, pay s m d e = relP e o' 256 (relF s m e))
    (hdir : (o' + 256 ≤ 512 ∧ disp s d = 1) ∨ (512 ≤ o' ∧ disp s d = s - 1)) (fd) :
    iprop(ctx s m K ∗ Own (F := F) s c d.val ∗ xP c o 256 (X m c) ∗ relP (F := F) (tgt s c d) o' 256 fd)
      ⊢ iprop(((Own (F := F) s c (d.val + 1) ∗ cred (tallyAt (cell c d') () (amt d'))) -∗ (wpt c) (k ⟨⟩) Q)
        -∗ (wpt c) (.op (.enqueueDma (xM o 256 inb) (.remote (Dev.tc n : Thread nD τ) (relM o' 256 inb') (.dma qS) hsc) (.dma qR) hsrc hdst hsem) k) Q) := by
  subst hn
  rw [← relP_eq _ o' 256 inb', ← hpx c]
  have hland : (show Fin 32 from tgt s c d) - 1 = c ∧ o' + 256 ≤ 512 ∨ (show Fin 32 from tgt s c d) - (s - 1) = c ∧ 512 ≤ o' := by
    rcases hdir with ⟨h, e⟩ | ⟨h, e⟩
    · exact Or.inl ⟨by show (show Fin 32 from c) + disp s d - 1 = c; rw [e]; exact add_sub_self32 c 1, h⟩
    · exact Or.inr ⟨by show (show Fin 32 from c) + disp s d - (s - 1) = c; rw [e]; exact add_sub_self32 c (s - 1), h⟩
  have h1 := (xP_eq c o 256 inb (X m c)).trans (hpx c).symm
  have h2 := Entails.of_eq ((landed_rel s m c (tgt s c d) o o' 256 ho (hland.imp And.symm And.symm) inb inb' fd).trans (hpr _).symm)
  have h3 := rel_credit o' inb' d ⟨hd.1, by omega⟩
  exact step_send (src := xM o 256 inb) (dst := relM o' 256 inb') (hsc := hsc) (hsrc := hsrc) (hdst := hdst) (hsem := hsem) (Q := Q) (k := k)
    s m K c d d' hdd ⟨by omega, by omega⟩ (tgt s c d) rfl hS hR h3 (X m c) fd h1 h2

/-- A transfer of 256 rows of the filled relay buffer to the result (duties 11–14). -/
theorem step_fwd {α : Type} {Q : α → sProp 𝕄} {k : PUnit → Prog (TpuEff nD τ sig (Elt F) Λ₀ .tc) α}
    (c : Dev nD) (d d' : Fin 30) (hdd : d' = sd d) (hd : 11 ≤ d.val ∧ d.val < 15) (n : Dev nD) (hn : n = tgt s c d)
    (o o' : ℕ) (ho : o' = o + 1024) (inb inb') {qS qR : DmaSem sig} {hsc : (outM o' 256 inb').view.ref.isScScratch = false} {hsrc : (relM o 256 inb).view.WordExact} {hdst : (outM o' 256 inb').view.WordExact}
    {hsem : DmaTarget.Typed .vmem (.dma qR) (.remote (Dev.tc n : Thread nD τ) (outM o' 256 inb') (.dma qS) hsc)}
    (hS : csem d' = .dma qS) (hR : csem d = .dma qR)
    (hpr : ∀ e, pay s m d' e = relP e o 256 (relF s m e)) (hpo : ∀ e, pay s m d e = outP e o' 256 (outF s m e))
    (hdir : (o + 256 ≤ 512 ∧ disp s d = s - 1) ∨ (512 ≤ o ∧ disp s d = 1)) (fd) :
    iprop(ctx s m K ∗ Own (F := F) s c d.val ∗ relP c o 256 (relF s m c) ∗ outP (F := F) (tgt s c d) o' 256 fd)
      ⊢ iprop(((Own (F := F) s c (d.val + 1) ∗ cred (tallyAt (cell c d') () (amt d'))) -∗ (wpt c) (k ⟨⟩) Q)
        -∗ (wpt c) (.op (.enqueueDma (relM o 256 inb) (.remote (Dev.tc n : Thread nD τ) (outM o' 256 inb') (.dma qS) hsc) (.dma qR) hsrc hdst hsem) k) Q) := by
  subst hn
  rw [← outP_eq _ o' 256 inb', ← hpr c]
  have hland : (show Fin 32 from tgt s c d) - s = (show Fin 32 from c) - 1 ∧ o + 256 ≤ 512
      ∨ (show Fin 32 from tgt s c d) - s = (show Fin 32 from c) - (s - 1) ∧ 512 ≤ o := by
    rcases hdir with ⟨h, e⟩ | ⟨h, e⟩
    · exact Or.inl ⟨by show (show Fin 32 from c) + disp s d - s = _; rw [e]; exact fwd_prev c s, h⟩
    · exact Or.inr ⟨by show (show Fin 32 from c) + disp s d - s = _; rw [e]; exact fwd_right c s, h⟩
  have h1 := (relP_eq c o 256 inb (relF s m c)).trans (hpr c).symm
  have h2 := Entails.of_eq ((landed_fwd s m c (tgt s c d) o o' 256 ho (hland.imp And.symm And.symm) inb inb' fd).trans (hpo _).symm)
  have h3 := chunk_credit o' inb' d ⟨by omega, hd.2⟩
  exact step_send (src := relM o 256 inb) (dst := outM o' 256 inb') (hsc := hsc) (hsrc := hsrc) (hdst := hdst) (hsem := hsem) (Q := Q) (k := k)
    s m K c d d' hdd ⟨by omega, by omega⟩ (tgt s c d) rfl hS hR h3 (relF s m c) fd h1 h2

end

end Cert.Rotate

end
-- ==== Proof.Devices.lean ====
/-
# Which device each signal and each transfer addresses

The kernel computes a device's number from its own number and the word it reads in `pi`; where that word is `c + s`, each of
the twenty-one numbers is the one the protocol names.
-/
module

public import proofs.«01_k».proof.Proof.Plan

@[expose] public section

noncomputable section

namespace Cert.Rotate

open Cert.KernelIdeal Cert.KernelIdeal.Gen

open Idealize.ShloMosaic
open Idealize.ShloMosaic.TcCoe

/-- The word of a number below 32. -/
abbrev word (t : Fin 32) : BitVec 32 := BitVec.ofNat 32 t.val

/-- The target, the device to the right, the device before the target, the source, the device to the left, the device after
    the source, as computed. -/
theorem dst_val : ∀ t : Fin 32, k0_dev1 (word t) = t.val := by decide +kernel
theorem right_val : ∀ c : Fin 32, k0_dev2 c = (c + 1).val := by decide +kernel
theorem prev_val : ∀ t : Fin 32, k0_dev3 (word t) = (t - 1).val := by decide +kernel
theorem src_val : ∀ c t : Fin 32, k0_dev4 c (word t) = (c - (t - c)).val := by decide +kernel
theorem left_val : ∀ c : Fin 32, k0_dev5 c = (c - 1).val := by decide +kernel
theorem after_val : ∀ c t : Fin 32, k0_dev6 c (word t) = (c - (t - c) + 1).val := by decide +kernel

theorem prev_eq : ∀ c s : Fin 32, c + s - 1 = c + (s - 1) := by decide +kernel
theorem src_eq : ∀ c s : Fin 32, c - (c + s - c) = c + -s := by decide +kernel
theorem left_eq : ∀ c : Fin 32, c - 1 = c + -1 := by decide +kernel
theorem after_eq : ∀ c s : Fin 32, c - (c + s - c) + 1 = c + (1 - s) := by decide +kernel

section

variable (s : Fin 32) (c : Dev nD)

/-- The word device `c` reads: the number of its target. -/
abbrev wordAt : BitVec 32 := word ((show Fin 32 from c) + s)

theorem dst_dev : k0_dev1 (wordAt s c) = ((show Fin 32 from c) + s).val := dst_val _
theorem right_dev : k0_dev2 c = ((show Fin 32 from c) + 1).val := right_val c
theorem prev_dev : k0_dev3 (wordAt s c) = ((show Fin 32 from c) + (s - 1)).val := by rw [prev_val, prev_eq]
theorem src_dev : k0_dev4 c (wordAt s c) = ((show Fin 32 from c) + -s).val := by rw [src_val, src_eq]
theorem left_dev : k0_dev5 c = ((show Fin 32 from c) + -1).val := by rw [left_val, left_eq]
theorem after_dev : k0_dev6 c (wordAt s c) = ((show Fin 32 from c) + (1 - s)).val := by rw [after_val, after_eq]

/-- Each computed number is a device's: the check the kernel makes on the word it reads. -/
theorem check : k0_chk1 c (wordAt s c) := by
  have h1 : k0_dev1 (wordAt s c) < nD := by rw [dst_dev]; exact Fin.isLt _
  have h3 : k0_dev3 (wordAt s c) < nD := by rw [prev_dev]; exact Fin.isLt _
  have h4 : k0_dev4 c (wordAt s c) < nD := by rw [src_dev]; exact Fin.isLt _
  have h6 : k0_dev6 c (wordAt s c) < nD := by rw [after_dev]; exact Fin.isLt _
  exact ⟨h1, h3, h4, h6, h1, h3, h3, h3, h3, h1, h3, h4, h6⟩

end

end Cert.Rotate

end
-- ==== Proof.Parts.lean ====
/-
# The body's parts

One theorem for each of the nine parts the body is printed in: what it starts from, what it leaves.
-/
module

public import proofs.«01_k».proof.Proof.Copies
public import proofs.«01_k».proof.Proof.Devices

@[expose] public section

noncomputable section

namespace Cert.Rotate

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "wpt" c => wp frame (wpE (defs₀ (F := F)) 𝒱₀ (Dev.tc c : Thread nD τ) none) Set.univ

/-- What a wait for 256 rows takes. -/
theorem wamt_chunk (i : Fin 20) (h : i.val ≠ 0 ∧ i.val ≠ 5 ∧ i.val ≠ 6 ∧ i.val ≠ 19) : wamt i = NC := by
  have : ∀ i : Fin 20, i.val ≠ 0 ∧ i.val ≠ 5 ∧ i.val ≠ 6 ∧ i.val ≠ 19 →
      ¬((wd i).val < 6 ∨ 15 ≤ (wd i).val ∧ (wd i).val < 21) ∧ ¬((wd i).val = 6 ∨ (wd i).val = 21) := by decide
  unfold wamt amt
  rw [if_neg (by omega), if_neg (this i h).1, if_neg (this i h).2]
/-- What a wait for 1024 rows takes. -/
theorem wamt_block (i : Fin 20) (h : i.val = 5 ∨ i.val = 6) : wamt i = NB := by
  have : ∀ i : Fin 20, i.val = 5 ∨ i.val = 6 →
      ¬((wd i).val < 6 ∨ 15 ≤ (wd i).val ∧ (wd i).val < 21) ∧ ((wd i).val = 6 ∨ (wd i).val = 21) := by decide
  unfold wamt amt
  rw [if_neg (by omega), if_neg (this i h).1, if_pos (this i h).2]

section

variable (s : Fin 32) (m : (ℓ : Loc nD τ sig) → Buf (Elt F) ℓ) (K : Dev nD × Fin 20 → ℕ)

abbrev piM : Memref sig .tc .smem S32 .i32 := Memref.whole cc0_stg0_0
abbrev rPi (c : Dev nD) : Rect S32 := Rect.unit (s := S32) (k0_off1 c) S1.size (k0_off1_inb c)
abbrev bar : Sems sig S_ := SemArray.scalar (sig.barrier 0 rfl)

/-- A wait on a transfer's semaphore takes the credit of the rows it names. -/
theorem wait_credit {i : Fin 20} {sp : Space} {z : Shape} (dst : Memref sig .tc sp z .f32) (h : z = S1x256x1024 ∧ (i.val ≠ 0 ∧ i.val ≠ 5 ∧ i.val ≠ 6 ∧ i.val ≠ 19)
    ∨ z = S1x1024x1024 ∧ (i.val = 5 ∨ i.val = 6)) : wamt i = dst.view.dmaCredit := by
  rcases h with ⟨rfl, h⟩ | ⟨rfl, h⟩
  · exact (wamt_chunk i h).trans rfl
  · exact (wamt_block i h).trans rfl

/-- A wait for a transfer's landing. -/
theorem wait_landed {α : Type} {Q : α → sProp 𝕄} {k : PUnit → Prog (TpuEff nD τ sig (Elt F) Λ₀ .tc) α}
    (c : Dev nD) (i : Fin 20) (hi : (wd i).val < 21) (n : ℕ) (hn : ∀ d : Fin 30, n ≤ d.val → d.val < 21 → lvs (csem (wd i)) < lvs (csem d))
    {sp sp' : Space} {z : Shape} {src : Memref sig .tc sp' z .f32} {dst : Memref sig .tc sp z .f32} {hsrc : src.view.WordExact} {hdst : dst.view.WordExact}
    {sem : DmaSem sig} (hsm : csem (wd i) = .dma sem)
    (h : z = S1x256x1024 ∧ (i.val ≠ 0 ∧ i.val ≠ 5 ∧ i.val ≠ 6 ∧ i.val ≠ 19) ∨ z = S1x1024x1024 ∧ (i.val = 5 ∨ i.val = 6)) :
    iprop(ctx s m K ∗ Own (F := F) s c n ∗ Wt (F := F) c i.val)
      ⊢ iprop(((Own (F := F) s c n ∗ Wt (F := F) c (i.val + 1) ∗ got s m c i) -∗ (wpt c) (k ⟨⟩) Q)
        -∗ (wpt c) (.op (.waitDma2 sem src dst hsrc hdst) k) Q) :=
  step_wait s m K c i hi n hn (wpE_waitDma2_eq 𝒱₀ (c : Thread nD τ) none Set.univ) hsm (wait_credit dst h)

/-- A wait for a transfer's source to have been read. -/
theorem wait_read {α : Type} {Q : α → sProp 𝕄} {k : PUnit → Prog (TpuEff nD τ sig (Elt F) Λ₀ .tc) α}
    (c : Dev nD) (i : Fin 20) (hi : 21 ≤ (wd i).val) (n : ℕ) (hn : ∀ d : Fin 30, n ≤ d.val → d.val < 21 → lvs (csem (wd i)) < lvs (csem d))
    {sp sp' : Space} {z : Shape} {src : Memref sig .tc sp' z .f32} {dst : Memref sig .tc sp z .f32} {hsrc : src.view.WordExact} {hdst : dst.view.WordExact}
    {sem : DmaSem sig} (hsm : csem (wd i) = .dma sem)
    (h : z = S1x256x1024 ∧ (i.val ≠ 0 ∧ i.val ≠ 5 ∧ i.val ≠ 6 ∧ i.val ≠ 19) ∨ z = S1x1024x1024 ∧ (i.val = 5 ∨ i.val = 6)) :
    iprop(ctx s m K ∗ Own (F := F) s c n ∗ Wt (F := F) c i.val ∗ wcred (F := F) c i)
      ⊢ iprop(((Own (F := F) s c n ∗ Wt (F := F) c (i.val + 1) ∗ got s m c i) -∗ (wpt c) (k ⟨⟩) Q)
        -∗ (wpt c) (.op (.waitDma2 sem src dst hsrc hdst) k) Q) :=
  step_wait_send s m K c i hi n hn (wpE_waitDma2_eq 𝒱₀ (c : Thread nD τ) none Set.univ) hsm (wait_credit dst h)

omit [FloatOps F] in
/-- A computed number that is the target's names the target. -/
theorem dev_eq {c : Dev nD} {d : Fin 30} {k : ℕ} (h : k < nD) (e : k = (tgt s c d).val) : (⟨k, h⟩ : Dev nD) = tgt s c d := Fin.ext e

/-- A signal that hands nothing over. -/
theorem step_signal_plain {α : Type} {Q : α → sProp 𝕄} {k : PUnit → Prog (TpuEff nD τ sig (Elt F) Λ₀ .tc) α}
    (c : Dev nD) (d : Fin 30) (hd : d.val < 3 ∨ 15 ≤ d.val ∧ d.val < 21) (n : Dev nD) (hn : n = tgt s c d)
    (sem : Sem sig) (hsem : csem d = .reg sem) :
    iprop(ctx s m K ∗ Own (F := F) s c d.val)
      ⊢ iprop((Own (F := F) s c (d.val + 1) -∗ (wpt c) (k ⟨⟩) Q)
        -∗ (wpt c) (.op (.semSignal (n, .tc) sem (1#32 : BitVec 32).toInt) k) Q) := by
  have hp : pay s m d (tgt s c d) = (iprop(emp) : sProp 𝕄) := by
    unfold pay; fin_cases d <;> first | rfl | (exfalso; revert hd; decide)
  refine BIBase.Entails.trans ?_ (step_signal s m K c d (by omega) n hn sem hsem)
  rw [hp]
  iintro ⟨#Hctx, HO⟩
  isplitr; · iexact Hctx
  isplitl [HO]; · iexact HO
  iempintro

/-- Part 1: the word of `pi` is read, it is `c + s`, and the entry barrier's first three signals are made. -/
theorem part1 (c : Dev nD) (f : Buf (Elt F) ((c : Thread nD τ).loc cc0_stg0_0))
    (hf : ((piM).access (rPi c) : View sig .tc _ _ _).read (Elt F) f (Shape.Idx.first (s := S1) (numel1_S1.symm ▸ Nat.one_pos)) = wordAt s c)
    (Q : (Σ' (d0 : Dev nD) (v4 : Elt F .i32) (k0_hw1 : k0_chk1 d0 v4) (v6 : BitVec 32) (v9 : BitVec 32) (v14 : BitVec 32) (v17 : BitVec 32) (v20 : BitVec 32) (v21 : Sems sig S_), BitVec 32) → sProp 𝕄) :
    iprop((ctx s m K ∗ Own (F := F) s c 0 ∗ (((c : Thread nD τ).loc cc0_stg0_0) ↦{fullShare} f))
        ∗ (∀ v6 v9 v14 v17 v20 v28, (Own (F := F) s c 3 ∗ (((c : Thread nD τ).loc cc0_stg0_0) ↦{fullShare} f))
            -∗ Q ⟨c, wordAt s c, check s c, v6, v9, v14, v17, v20, bar, v28⟩))
      ⊢ (wpt c) (k0_part1 (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0) Q := by
  simp only [k0_part1_eq_skeleton]; unfold k0_part1_skel
  simp only [semSignalWord, smemLoad, smemLoadElt, Prog.lift, Prog.bind_op, Prog.bind_ret, Prog.pure_eq_ret, Prog.bind_assoc, wp_deviceId]
  iintro ⟨⟨#Hctx, HO, Hpi⟩, Hk⟩
  iapply (wp_load_rect 𝒱₀ (c : Thread nD τ) none Set.univ (m := piM) (r := rPi c) (Finset.subset_univ _)) $$ Hpi; iintro Hpi
  rw [hf]
  simp only [wp_assume_of _ _ _ _ (d := k0_chk1.dec _ _) (check s c)]
  iapply (step_signal_plain s m K c 0 (by decide) _ (dev_eq s (k0_dev1_lt c _ (check s c)) (dst_dev s c)) bar.sem rfl) $$ [HO]
  · isplitr; · iexact Hctx
    iexact HO
  iintro HO
  iapply (step_signal_plain s m K c 1 (by decide) _ (dev_eq s (k0_dev2_lt c) (right_dev c)) bar.sem rfl) $$ [HO]
  · isplitr; · iexact Hctx
    iexact HO
  iintro HO
  iapply (step_signal_plain s m K c 2 (by decide) _ (dev_eq s (k0_dev3_lt c _ (check s c)) (prev_dev s c)) bar.sem rfl) $$ [HO]
  · isplitr; · iexact Hctx
    iexact HO
  iintro HO
  rw [wp_ret]; imodintro
  iapply Hk
  isplitl [HO]; · iexact HO
  iexact Hpi

/-- Part 2: the entry barrier's last three signals, with the rows handed over, its wait, the direct transfer, the first chunk
    to the right. -/
theorem part2 (c : Dev nD) (hw : k0_chk1 c (wordAt s c)) (v6 v17 v20 v28 : BitVec 32) (Q : PUnit → sProp 𝕄) :
    iprop((ctx s m K ∗ Own (F := F) s c 3 ∗ Wt (F := F) c 0 ∗ (pay s m 3 (tgt s c 3) ∗ pay s m 4 (tgt s c 4) ∗ pay s m 5 (tgt s c 5))
          ∗ xP c 0 1024 (X m c) ∗ xP c 1024 256 (X m c))
        ∗ ((Own (F := F) s c 8 ∗ Wt (F := F) c 1 ∗ wcred (F := F) c 5 ∗ wcred (F := F) c 7
          ∗ ((∃ f, relP (F := F) ((show Fin 32 from c) + 1) 256 256 f)
            ∗ (∃ f, outP (F := F) ((show Fin 32 from c) + 1) 1536 256 f) ∗ (∃ f, outP (F := F) ((show Fin 32 from c) + 1) 1792 256 f))
          ∗ fillP (F := F) s c) -∗ Q ⟨⟩))
      ⊢ (wpt c) (k0_part2 (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0 c (wordAt s c) hw v6 v17 v20 bar v28) Q := by
  simp only [k0_part2_eq_skeleton]; unfold k0_part2_skel
  simp only [semSignalWord, semWaitWord, Prog.lift, Prog.bind_op, Prog.bind_ret, Prog.pure_eq_ret]
  iintro ⟨⟨#Hctx, HO, HW, ⟨H3, H4, H5⟩, Hx0, Hx1⟩, Hk⟩
  iapply (step_signal s m K c 3 (by decide) _ (dev_eq s (k0_dev4_lt c _ hw) (src_dev s c)) bar.sem rfl) $$ [HO H3]
  · isplitr; · iexact Hctx
    isplitl [HO]; · iexact HO
    iexact H3
  iintro HO
  iapply (step_signal s m K c 4 (by decide) _ (dev_eq s (k0_dev5_lt c) (left_dev c)) bar.sem rfl) $$ [HO H4]
  · isplitr; · iexact Hctx
    isplitl [HO]; · iexact HO
    iexact H4
  iintro HO
  iapply (step_signal s m K c 5 (by decide) _ (dev_eq s (k0_dev6_lt c _ hw) (after_dev s c)) bar.sem rfl) $$ [HO H5]
  · isplitr; · iexact Hctx
    isplitl [HO]; · iexact HO
    iexact H5
  iintro HO
  iapply (step_wait s m K c 0 (by decide) 6 (by decide) (wpE_semWait_eq 𝒱₀ (c : Thread nD τ) none Set.univ) rfl rfl) $$ [HO HW]
  · isplitr; · iexact Hctx
    isplitl [HO]; · iexact HO
    iexact HW
  iintro ⟨HO, HW, Hg⟩
  ihave Hg := (show got s m c 0 ⊢ iprop(fillS (F := F) s c ∗ fill1 (F := F) c ∗ fillP (F := F) s c) from BI.Entails.refl _) $$ Hg
  unfold fillS fill1
  icases Hg with ⟨⟨%f0, Ho0⟩, ⟨⟨%f1, Hr0⟩, Hr1, Ho1, Ho2⟩, HP⟩
  iapply (step_direct s m K c _ (dev_eq s (k0_dev7_lt c _ hw) (dst_dev s c)) inb_S1x2048x1024_S1x1024x1024_0_0_0 inb_S1x2048x1024_S1x1024x1024_0_0_0 rfl rfl f0) $$ [HO Hx0 Ho0]
  · isplitr; · iexact Hctx
    isplitl [HO]; · iexact HO
    isplitl [Hx0]; · iexact Hx0
    iexact Ho0
  iintro ⟨HO, Hc0⟩
  iapply (step_rel s m K c 7 22 rfl (by decide) _ (dev_eq s (k0_dev8_lt c) (right_dev c)) 1024 0 rfl inb_S1x2048x1024_S1x256x1024_0_1024_0 inb_S1x1024x1024_S1x256x1024_0_0_0
    rfl rfl (fun _ => rfl) (fun _ => rfl) (Or.inl ⟨by decide, rfl⟩) f1) $$ [HO Hx1 Hr0]
  · isplitr; · iexact Hctx
    isplitl [HO]; · iexact HO
    isplitl [Hx1]; · iexact Hx1
    iexact Hr0
  iintro ⟨HO, Hc1⟩
  rw [wp_ret]; imodintro
  iapply Hk
  isplitl [HO]; · iexact HO
  isplitl [HW]; · iexact HW
  isplitl [Hc0]; · rw [← wcred_of c 5 (by decide)]; iexact Hc0
  isplitl [Hc1]; · rw [← wcred_of c 7 (by decide)]; iexact Hc1
  isplitl [Hr1 Ho1 Ho2]
  · isplitl [Hr1]; · iexact Hr1
    isplitl [Ho1]; · iexact Ho1
    iexact Ho2
  iexact HP

/-- Part 3: the second chunk to the right, the two chunks to the device before the target. -/
theorem part3 (c : Dev nD) (hw : k0_chk1 c (wordAt s c)) (v6 v9 : BitVec 32) (Q : PUnit → sProp 𝕄) :
    iprop((ctx s m K ∗ Own (F := F) s c 8 ∗ (∃ f, relP (F := F) ((show Fin 32 from c) + 1) 256 256 f) ∗ fillP (F := F) s c
          ∗ xP c 1280 256 (X m c) ∗ xP c 1536 256 (X m c) ∗ xP c 1792 256 (X m c))
        ∗ ((Own (F := F) s c 11 ∗ wcred (F := F) c 13 ∗ wcred (F := F) c 8 ∗ wcred (F := F) c 14
          ∗ (∃ f, outP (F := F) ((show Fin 32 from c) + (s - 1)) 1024 256 f) ∗ (∃ f, outP (F := F) ((show Fin 32 from c) + (s - 1)) 1280 256 f)) -∗ Q ⟨⟩))
      ⊢ (wpt c) (k0_part3 (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0 c (wordAt s c) hw v6 v9) Q := by
  simp only [k0_part3_eq_skeleton]; unfold k0_part3_skel
  simp only [Prog.lift, Prog.bind_op, Prog.bind_ret, Prog.pure_eq_ret]
  unfold fillP
  iintro ⟨⟨#Hctx, HO, ⟨%f1, Hr1⟩, ⟨⟨%f2, Hr2⟩, ⟨%f3, Hr3⟩, Ho1, Ho2⟩, Hx1, Hx2, Hx3⟩, Hk⟩
  iapply (step_rel s m K c 8 23 rfl (by decide) _ (dev_eq s (k0_dev9_lt c) (right_dev c)) 1280 256 rfl inb_S1x2048x1024_S1x256x1024_0_1280_0 inb_S1x1024x1024_S1x256x1024_0_256_0
    rfl rfl (fun _ => rfl) (fun _ => rfl) (Or.inl ⟨by decide, rfl⟩) f1) $$ [HO Hx1 Hr1]
  · isplitr; · iexact Hctx
    isplitl [HO]; · iexact HO
    isplitl [Hx1]; · iexact Hx1
    iexact Hr1
  iintro ⟨HO, Hc1⟩
  iapply (step_rel s m K c 9 24 rfl (by decide) _ (dev_eq s (k0_dev10_lt c _ hw) (prev_dev s c)) 1536 512 rfl inb_S1x2048x1024_S1x256x1024_0_1536_0 inb_S1x1024x1024_S1x256x1024_0_512_0
    rfl rfl (fun _ => rfl) (fun _ => rfl) (Or.inr ⟨by decide, rfl⟩) f2) $$ [HO Hx2 Hr2]
  · isplitr; · iexact Hctx
    isplitl [HO]; · iexact HO
    isplitl [Hx2]; · iexact Hx2
    iexact Hr2
  iintro ⟨HO, Hc2⟩
  iapply (step_rel s m K c 10 25 rfl (by decide) _ (dev_eq s (k0_dev11_lt c _ hw) (prev_dev s c)) 1792 768 rfl inb_S1x2048x1024_S1x256x1024_0_1792_0 inb_S1x1024x1024_S1x256x1024_0_768_0
    rfl rfl (fun _ => rfl) (fun _ => rfl) (Or.inr ⟨by decide, rfl⟩) f3) $$ [HO Hx3 Hr3]
  · isplitr; · iexact Hctx
    isplitl [HO]; · iexact HO
    isplitl [Hx3]; · iexact Hx3
    iexact Hr3
  iintro ⟨HO, Hc3⟩
  rw [wp_ret]; imodintro
  iapply Hk
  isplitl [HO]; · iexact HO
  isplitl [Hc1]; · rw [← wcred_of c 13 (by decide)]; iexact Hc1
  isplitl [Hc2]; · rw [← wcred_of c 8 (by decide)]; iexact Hc2
  isplitl [Hc3]; · rw [← wcred_of c 14 (by decide)]; iexact Hc3
  isplitl [Ho1] <;> iassumption

/-- Part 4: the two chunks from the left arrive and are forwarded. -/
theorem part4 (c : Dev nD) (hw : k0_chk1 c (wordAt s c)) (v6 v9 : BitVec 32) (Q : PUnit → sProp 𝕄) :
    iprop((ctx s m K ∗ Own (F := F) s c 11 ∗ Wt (F := F) c 1
          ∗ (∃ f, outP (F := F) ((show Fin 32 from c) + (s - 1)) 1024 256 f) ∗ (∃ f, outP (F := F) ((show Fin 32 from c) + (s - 1)) 1280 256 f))
        ∗ ((Own (F := F) s c 13 ∗ Wt (F := F) c 3 ∗ wcred (F := F) c 9 ∗ wcred (F := F) c 15) -∗ Q ⟨⟩))
      ⊢ (wpt c) (k0_part4 (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0 c (wordAt s c) hw v6 v9) Q := by
  simp only [k0_part4_eq_skeleton]; unfold k0_part4_skel
  simp only [Prog.lift, Prog.bind_op, Prog.bind_ret, Prog.pure_eq_ret]
  iintro ⟨⟨#Hctx, HO, HW, ⟨%f1, Ho1⟩, ⟨%f2, Ho2⟩⟩, Hk⟩
  iapply (wait_landed s m K c 1 (by decide) 11 (by decide) rfl (Or.inl ⟨rfl, by decide⟩)) $$ [HO HW]
  · isplitr; · iexact Hctx
    isplitl [HO]; · iexact HO
    iexact HW
  iintro ⟨HO, HW, Hg⟩
  ihave Hr := (show got s m c 1 ⊢ relP c 0 256 (relF s m c) from BI.Entails.refl _) $$ Hg
  iapply (step_fwd s m K c 11 26 rfl (by decide) _ (dev_eq s (k0_dev12_lt c _ hw) (prev_dev s c)) 0 1024 rfl inb_S1x1024x1024_S1x256x1024_0_0_0 inb_S1x2048x1024_S1x256x1024_0_1024_0
    rfl rfl (fun _ => rfl) (fun _ => rfl) (Or.inl ⟨by decide, rfl⟩) f1) $$ [HO Hr Ho1]
  · isplitr; · iexact Hctx
    isplitl [HO]; · iexact HO
    isplitl [Hr]; · iexact Hr
    iexact Ho1
  iintro ⟨HO, Hc1⟩
  iapply (wait_landed s m K c 2 (by decide) 12 (by decide) rfl (Or.inl ⟨rfl, by decide⟩)) $$ [HO HW]
  · isplitr; · iexact Hctx
    isplitl [HO]; · iexact HO
    iexact HW
  iintro ⟨HO, HW, Hg⟩
  ihave Hr := (show got s m c 2 ⊢ relP c 256 256 (relF s m c) from BI.Entails.refl _) $$ Hg
  iapply (step_fwd s m K c 12 27 rfl (by decide) _ (dev_eq s (k0_dev13_lt c _ hw) (prev_dev s c)) 256 1280 rfl inb_S1x1024x1024_S1x256x1024_0_256_0 inb_S1x2048x1024_S1x256x1024_0_1280_0
    rfl rfl (fun _ => rfl) (fun _ => rfl) (Or.inl ⟨by decide, rfl⟩) f2) $$ [HO Hr Ho2]
  · isplitr; · iexact Hctx
    isplitl [HO]; · iexact HO
    isplitl [Hr]; · iexact Hr
    iexact Ho2
  iintro ⟨HO, Hc2⟩
  rw [wp_ret]; imodintro
  iapply Hk
  isplitl [HO]; · iexact HO
  isplitl [HW]; · iexact HW
  isplitl [Hc1]; · rw [← wcred_of c 9 (by decide)]; iexact Hc1
  rw [← wcred_of c 15 (by decide)]; iexact Hc2

/-- Part 5: the two chunks for the right neighbour arrive; the first is forwarded. -/
theorem part5 (c : Dev nD) (v6 v9 : BitVec 32) (Q : PUnit → sProp 𝕄) :
    iprop((ctx s m K ∗ Own (F := F) s c 13 ∗ Wt (F := F) c 3 ∗ (∃ f, outP (F := F) ((show Fin 32 from c) + 1) 1536 256 f))
        ∗ ((Own (F := F) s c 14 ∗ Wt (F := F) c 5 ∗ wcred (F := F) c 11 ∗ relP c 768 256 (relF s m c)) -∗ Q ⟨⟩))
      ⊢ (wpt c) (k0_part5 (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0 c v6 v9) Q := by
  simp only [k0_part5_eq_skeleton]; unfold k0_part5_skel
  simp only [Prog.lift, Prog.bind_op, Prog.bind_ret, Prog.pure_eq_ret]
  iintro ⟨⟨#Hctx, HO, HW, ⟨%f1, Ho1⟩⟩, Hk⟩
  iapply (wait_landed s m K c 3 (by decide) 13 (by decide) rfl (Or.inl ⟨rfl, by decide⟩)) $$ [HO HW]
  · isplitr; · iexact Hctx
    isplitl [HO]; · iexact HO
    iexact HW
  iintro ⟨HO, HW, Hg⟩
  ihave Hr := (show got s m c 3 ⊢ relP c 512 256 (relF s m c) from BI.Entails.refl _) $$ Hg
  iapply (step_fwd s m K c 13 28 rfl (by decide) _ (dev_eq s (k0_dev14_lt c) (right_dev c)) 512 1536 rfl inb_S1x1024x1024_S1x256x1024_0_512_0 inb_S1x2048x1024_S1x256x1024_0_1536_0
    rfl rfl (fun _ => rfl) (fun _ => rfl) (Or.inr ⟨by decide, rfl⟩) f1) $$ [HO Hr Ho1]
  · isplitr; · iexact Hctx
    isplitl [HO]; · iexact HO
    isplitl [Hr]; · iexact Hr
    iexact Ho1
  iintro ⟨HO, Hc1⟩
  iapply (wait_landed s m K c 4 (by decide) 14 (by decide) rfl (Or.inl ⟨rfl, by decide⟩)) $$ [HO HW]
  · isplitr; · iexact Hctx
    isplitl [HO]; · iexact HO
    iexact HW
  iintro ⟨HO, HW, Hg⟩
  ihave Hr := (show got s m c 4 ⊢ relP c 768 256 (relF s m c) from BI.Entails.refl _) $$ Hg
  rw [wp_ret]; imodintro
  iapply Hk
  isplitl [HO]; · iexact HO
  isplitl [HW]; · iexact HW
  isplitl [Hc1]; · rw [← wcred_of c 11 (by decide)]; iexact Hc1
  iexact Hr

/-- Part 6: the second chunk for the right neighbour is forwarded; the direct transfer has been read and has arrived; the first
    chunk to the right has been read. -/
theorem part6 (c : Dev nD) (v4 : BitVec 32) (Q : PUnit → sProp 𝕄) :
    iprop((ctx s m K ∗ Own (F := F) s c 14 ∗ Wt (F := F) c 5 ∗ relP c 768 256 (relF s m c) ∗ (∃ f, outP (F := F) ((show Fin 32 from c) + 1) 1792 256 f)
          ∗ wcred (F := F) c 5 ∗ wcred (F := F) c 7)
        ∗ ((Own (F := F) s c 15 ∗ Wt (F := F) c 8 ∗ wcred (F := F) c 17 ∗ got s m c 5 ∗ got s m c 6 ∗ got s m c 7) -∗ Q ⟨⟩))
      ⊢ (wpt c) (k0_part6 (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0 c v4) Q := by
  simp only [k0_part6_eq_skeleton]; unfold k0_part6_skel
  simp only [Prog.lift, Prog.bind_op, Prog.bind_ret, Prog.pure_eq_ret]
  iintro ⟨⟨#Hctx, HO, HW, Hr, ⟨%f1, Ho1⟩, Hc5, Hc7⟩, Hk⟩
  iapply (step_fwd s m K c 14 29 rfl (by decide) _ (dev_eq s (k0_dev15_lt c) (right_dev c)) 768 1792 rfl inb_S1x1024x1024_S1x256x1024_0_768_0 inb_S1x2048x1024_S1x256x1024_0_1792_0
    rfl rfl (fun _ => rfl) (fun _ => rfl) (Or.inr ⟨by decide, rfl⟩) f1) $$ [HO Hr Ho1]
  · isplitr; · iexact Hctx
    isplitl [HO]; · iexact HO
    isplitl [Hr]; · iexact Hr
    iexact Ho1
  iintro ⟨HO, Hc1⟩
  iapply (wait_read s m K c 5 (by decide) 15 (by decide) rfl (Or.inr ⟨rfl, by decide⟩)) $$ [HO HW Hc5]
  · isplitr; · iexact Hctx
    isplitl [HO]; · iexact HO
    isplitl [HW]; · iexact HW
    iexact Hc5
  iintro ⟨HO, HW, Hg5⟩
  iapply (wait_landed s m K c 6 (by decide) 15 (by decide) rfl (Or.inr ⟨rfl, by decide⟩)) $$ [HO HW]
  · isplitr; · iexact Hctx
    isplitl [HO]; · iexact HO
    iexact HW
  iintro ⟨HO, HW, Hg6⟩
  iapply (wait_read s m K c 7 (by decide) 15 (by decide) rfl (Or.inl ⟨rfl, by decide⟩)) $$ [HO HW Hc7]
  · isplitr; · iexact Hctx
    isplitl [HO]; · iexact HO
    isplitl [HW]; · iexact HW
    iexact Hc7
  iintro ⟨HO, HW, Hg7⟩
  rw [wp_ret]; imodintro
  iapply Hk
  isplitl [HO]; · iexact HO
  isplitl [HW]; · iexact HW
  isplitl [Hc1]; · rw [← wcred_of c 17 (by decide)]; iexact Hc1
  isplitl [Hg5]; · iexact Hg5
  isplitl [Hg6] <;> iassumption

/-- Part 7: the chunks of transfers 3, 5 and 7 have been read, that of transfer 5 has arrived. -/
theorem part7 (c : Dev nD) (v6 v9 : BitVec 32) (Q : PUnit → sProp 𝕄) :
    iprop((ctx s m K ∗ Own (F := F) s c 15 ∗ Wt (F := F) c 8 ∗ wcred (F := F) c 8 ∗ wcred (F := F) c 9 ∗ wcred (F := F) c 11)
        ∗ ((Own (F := F) s c 15 ∗ Wt (F := F) c 12 ∗ got s m c 8 ∗ got s m c 9 ∗ got s m c 10 ∗ got s m c 11) -∗ Q ⟨⟩))
      ⊢ (wpt c) (k0_part7 (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0 v6 v9) Q := by
  simp only [k0_part7_eq_skeleton]; unfold k0_part7_skel
  simp only [Prog.lift, Prog.bind_op, Prog.bind_ret, Prog.pure_eq_ret]
  iintro ⟨⟨#Hctx, HO, HW, Hc8, Hc9, Hc11⟩, Hk⟩
  iapply (wait_read s m K c 8 (by decide) 15 (by decide) rfl (Or.inl ⟨rfl, by decide⟩)) $$ [HO HW Hc8]
  · isplitr; · iexact Hctx
    isplitl [HO]; · iexact HO
    isplitl [HW]; · iexact HW
    iexact Hc8
  iintro ⟨HO, HW, Hg8⟩
  iapply (wait_read s m K c 9 (by decide) 15 (by decide) rfl (Or.inl ⟨rfl, by decide⟩)) $$ [HO HW Hc9]
  · isplitr; · iexact Hctx
    isplitl [HO]; · iexact HO
    isplitl [HW]; · iexact HW
    iexact Hc9
  iintro ⟨HO, HW, Hg9⟩
  iapply (wait_landed s m K c 10 (by decide) 15 (by decide) rfl (Or.inl ⟨rfl, by decide⟩)) $$ [HO HW]
  · isplitr; · iexact Hctx
    isplitl [HO]; · iexact HO
    iexact HW
  iintro ⟨HO, HW, Hg10⟩
  iapply (wait_read s m K c 11 (by decide) 15 (by decide) rfl (Or.inl ⟨rfl, by decide⟩)) $$ [HO HW Hc11]
  · isplitr; · iexact Hctx
    isplitl [HO]; · iexact HO
    isplitl [HW]; · iexact HW
    iexact Hc11
  iintro ⟨HO, HW, Hg11⟩
  rw [wp_ret]; imodintro
  iapply Hk
  isplitl [HO]; · iexact HO
  isplitl [HW]; · iexact HW
  isplitl [Hg8]; · iexact Hg8
  isplitl [Hg9]; · iexact Hg9
  isplitl [Hg10] <;> iassumption

/-- Part 8: the chunk of transfer 7 has arrived, those of transfers 2, 4 and 6 have been read. -/
theorem part8 (c : Dev nD) (v9 : BitVec 32) (Q : PUnit → sProp 𝕄) :
    iprop((ctx s m K ∗ Own (F := F) s c 15 ∗ Wt (F := F) c 12 ∗ wcred (F := F) c 13 ∗ wcred (F := F) c 14 ∗ wcred (F := F) c 15)
        ∗ ((Own (F := F) s c 15 ∗ Wt (F := F) c 16 ∗ got s m c 12 ∗ got s m c 13 ∗ got s m c 14 ∗ got s m c 15) -∗ Q ⟨⟩))
      ⊢ (wpt c) (k0_part8 (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0 v9) Q := by
  simp only [k0_part8_eq_skeleton]; unfold k0_part8_skel
  simp only [Prog.lift, Prog.bind_op, Prog.bind_ret, Prog.pure_eq_ret]
  iintro ⟨⟨#Hctx, HO, HW, Hc13, Hc14, Hc15⟩, Hk⟩
  iapply (wait_landed s m K c 12 (by decide) 15 (by decide) rfl (Or.inl ⟨rfl, by decide⟩)) $$ [HO HW]
  · isplitr; · iexact Hctx
    isplitl [HO]; · iexact HO
    iexact HW
  iintro ⟨HO, HW, Hg12⟩
  iapply (wait_read s m K c 13 (by decide) 15 (by decide) rfl (Or.inl ⟨rfl, by decide⟩)) $$ [HO HW Hc13]
  · isplitr; · iexact Hctx
    isplitl [HO]; · iexact HO
    isplitl [HW]; · iexact HW
    iexact Hc13
  iintro ⟨HO, HW, Hg13⟩
  iapply (wait_read s m K c 14 (by decide) 15 (by decide) rfl (Or.inl ⟨rfl, by decide⟩)) $$ [HO HW Hc14]
  · isplitr; · iexact Hctx
    isplitl [HO]; · iexact HO
    isplitl [HW]; · iexact HW
    iexact Hc14
  iintro ⟨HO, HW, Hg14⟩
  iapply (wait_read s m K c 15 (by decide) 15 (by decide) rfl (Or.inl ⟨rfl, by decide⟩)) $$ [HO HW Hc15]
  · isplitr; · iexact Hctx
    isplitl [HO]; · iexact HO
    isplitl [HW]; · iexact HW
    iexact Hc15
  iintro ⟨HO, HW, Hg15⟩
  rw [wp_ret]; imodintro
  iapply Hk
  isplitl [HO]; · iexact HO
  isplitl [HW]; · iexact HW
  isplitl [Hg12]; · iexact Hg12
  isplitl [Hg13]; · iexact Hg13
  isplitl [Hg14] <;> iassumption

/-- Part 9: the chunks of transfers 6 and 8 have arrived, that of transfer 8 has been read; the exit barrier's first four signals. -/
theorem part9 (c : Dev nD) (hw : k0_chk1 c (wordAt s c)) (v6 v9 v14 : BitVec 32) (Q : BitVec 32 → sProp 𝕄) :
    iprop((ctx s m K ∗ Own (F := F) s c 15 ∗ Wt (F := F) c 16 ∗ wcred (F := F) c 17)
        ∗ ((Own (F := F) s c 19 ∗ Wt (F := F) c 19 ∗ got s m c 16 ∗ got s m c 17 ∗ got s m c 18) -∗ Q 1#32))
      ⊢ (wpt c) (k0_part9 (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0 c (wordAt s c) hw v6 v9 v14) Q := by
  simp only [k0_part9_eq_skeleton]; unfold k0_part9_skel
  simp only [semSignalWord, Prog.lift, Prog.bind_op, Prog.bind_ret, Prog.pure_eq_ret]
  iintro ⟨⟨#Hctx, HO, HW, Hc17⟩, Hk⟩
  iapply (wait_landed s m K c 16 (by decide) 15 (by decide) rfl (Or.inl ⟨rfl, by decide⟩)) $$ [HO HW]
  · isplitr; · iexact Hctx
    isplitl [HO]; · iexact HO
    iexact HW
  iintro ⟨HO, HW, Hg16⟩
  iapply (wait_read s m K c 17 (by decide) 15 (by decide) rfl (Or.inl ⟨rfl, by decide⟩)) $$ [HO HW Hc17]
  · isplitr; · iexact Hctx
    isplitl [HO]; · iexact HO
    isplitl [HW]; · iexact HW
    iexact Hc17
  iintro ⟨HO, HW, Hg17⟩
  iapply (wait_landed s m K c 18 (by decide) 15 (by decide) rfl (Or.inl ⟨rfl, by decide⟩)) $$ [HO HW]
  · isplitr; · iexact Hctx
    isplitl [HO]; · iexact HO
    iexact HW
  iintro ⟨HO, HW, Hg18⟩
  iapply (step_signal_plain s m K c 15 (by decide) _ (dev_eq s (k0_dev16_lt c _ hw) (dst_dev s c)) cc0_scoped0.sem rfl) $$ [HO]
  · isplitr; · iexact Hctx
    iexact HO
  iintro HO
  iapply (step_signal_plain s m K c 16 (by decide) _ (dev_eq s (k0_dev17_lt c) (right_dev c)) cc0_scoped0.sem rfl) $$ [HO]
  · isplitr; · iexact Hctx
    iexact HO
  iintro HO
  iapply (step_signal_plain s m K c 17 (by decide) _ (dev_eq s (k0_dev18_lt c _ hw) (prev_dev s c)) cc0_scoped0.sem rfl) $$ [HO]
  · isplitr; · iexact Hctx
    iexact HO
  iintro HO
  iapply (step_signal_plain s m K c 18 (by decide) _ (dev_eq s (k0_dev19_lt c _ hw) (src_dev s c)) cc0_scoped0.sem rfl) $$ [HO]
  · isplitr; · iexact Hctx
    iexact HO
  iintro HO
  rw [wp_ret]; imodintro
  iapply Hk
  isplitl [HO]; · iexact HO
  isplitl [HW]; · iexact HW
  isplitl [Hg16]; · iexact Hg16
  isplitl [Hg17] <;> iassumption

end

end Cert.Rotate

end
-- ==== Proof.Body.lean ====
/-
# The whole body

The nine parts in their order, the exit barrier's last two signals and its wait; before them the buffers cut into the rows
that are handed over one by one, after them the rows put together again.
-/
module

public import proofs.«01_k».proof.Proof.Parts

@[expose] public section

noncomputable section

namespace Cert.Rotate

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "wpt" c => wp frame (wpE (defs₀ (F := F)) 𝒱₀ (Dev.tc c : Thread nD τ) none) Set.univ

section

variable (s : Fin 32) (m : (ℓ : Loc nD τ sig) → Buf (Elt F) ℓ) (K : Dev nD × Fin 20 → ℕ)

/-! ## Cutting the buffers into rows, and back -/

omit [FloatOps F] in
/-- Two consecutive stretches of rows make one. -/
theorem xP_add (c : Dev nD) (lo n n' : ℕ) (f : S1x2048x1024.Idx → Elt F .f32) : (xP (F := F) c lo (n + n') f ⊣⊢ iprop(xP c lo n f ∗ xP c (lo + n) n' f)) := by
  unfold xP; rw [rows_union]; exact pointsTo_union (rows_disjoint (Or.inl (le_refl _)))
omit [FloatOps F] in
theorem outP_add (c : Dev nD) (lo n n' : ℕ) (f : S1x2048x1024.Idx → Elt F .f32) : (outP (F := F) c lo (n + n') f ⊣⊢ iprop(outP c lo n f ∗ outP c (lo + n) n' f)) := by
  unfold outP; rw [rows_union]; exact pointsTo_union (rows_disjoint (Or.inl (le_refl _)))
omit [FloatOps F] in
theorem relP_add (c : Dev nD) (lo n n' : ℕ) (f : S1x1024x1024.Idx → Elt F .f32) : (relP (F := F) c lo (n + n') f ⊣⊢ iprop(relP c lo n f ∗ relP c (lo + n) n' f)) := by
  unfold relP; rw [rows_union]; exact pointsTo_union (rows_disjoint (Or.inl (le_refl _)))

/-- A block cut as the transfers cut it. -/
abbrev xCut (c : Dev nD) (f : S1x2048x1024.Idx → Elt F .f32) : sProp 𝕄 :=
  iprop(xP c 0 1024 f ∗ xP c 1024 256 f ∗ xP c 1280 256 f ∗ xP c 1536 256 f ∗ xP c 1792 256 f)
abbrev outCut (c : Dev nD) (f : S1x2048x1024.Idx → Elt F .f32) : sProp 𝕄 :=
  iprop(outP c 0 1024 f ∗ outP c 1024 256 f ∗ outP c 1280 256 f ∗ outP c 1536 256 f ∗ outP c 1792 256 f)
abbrev relCut (c : Dev nD) (f : S1x1024x1024.Idx → Elt F .f32) : sProp 𝕄 :=
  iprop(relP c 0 256 f ∗ relP c 256 256 f ∗ relP c 512 256 f ∗ relP c 768 256 f)

omit [FloatOps F] in
theorem x_cut (c : Dev nD) (f : S1x2048x1024.Idx → Elt F .f32) : ((((c : Thread nD τ).loc main_arg0) ↦{fullShare} f : sProp 𝕄) ⊣⊢ xCut c f) := by
  have h0 : (((c : Thread nD τ).loc main_arg0) ↦{fullShare} f : sProp 𝕄) = xP c 0 (1024 + (256 + (256 + (256 + 256)))) f := by
    unfold xP; rw [show rows zb 0 (1024 + (256 + (256 + (256 + 256)))) = Finset.univ from rows_all (z := zb)]
  rw [h0]
  exact (xP_add c 0 1024 _ f).trans (sep_congr_right ((xP_add c 1024 256 _ f).trans
    (sep_congr_right ((xP_add c 1280 256 _ f).trans (sep_congr_right (xP_add c 1536 256 256 f))))))
omit [FloatOps F] in
theorem out_cut (c : Dev nD) (f : S1x2048x1024.Idx → Elt F .f32) : ((((c : Thread nD τ).loc main_v1) ↦{fullShare} f : sProp 𝕄) ⊣⊢ outCut c f) := by
  have h0 : (((c : Thread nD τ).loc main_v1) ↦{fullShare} f : sProp 𝕄) = outP c 0 (1024 + (256 + (256 + (256 + 256)))) f := by
    unfold outP; rw [show rows zb 0 (1024 + (256 + (256 + (256 + 256)))) = Finset.univ from rows_all (z := zb)]
  rw [h0]
  exact (outP_add c 0 1024 _ f).trans (sep_congr_right ((outP_add c 1024 256 _ f).trans
    (sep_congr_right ((outP_add c 1280 256 _ f).trans (sep_congr_right (outP_add c 1536 256 256 f))))))
omit [FloatOps F] in
theorem rel_cut (c : Dev nD) (f : S1x1024x1024.Idx → Elt F .f32) : ((((c : Thread nD τ).loc cc0_scratch0) ↦{fullShare} f : sProp 𝕄) ⊣⊢ relCut c f) := by
  have h0 : (((c : Thread nD τ).loc cc0_scratch0) ↦{fullShare} f : sProp 𝕄) = relP c 0 (256 + (256 + (256 + 256))) f := by
    unfold relP; rw [show rows zr 0 (256 + (256 + (256 + 256))) = Finset.univ from rows_all (z := zr)]
  rw [h0]
  exact (relP_add c 0 256 _ f).trans (sep_congr_right ((relP_add c 256 256 _ f).trans (sep_congr_right (relP_add c 512 256 256 f))))

/-- The device that fills rows of `c`'s result from the device `s` before it, its left neighbour, and `s - 1` before it. -/
theorem back_s : ∀ a s : Fin 32, a + -s + s = a := by decide +kernel
theorem back_1 : ∀ a : Fin 32, a + -1 + 1 = a := by decide +kernel
theorem back_p : ∀ a s : Fin 32, a + (1 - s) + (s - 1) = a := by decide +kernel

omit [FloatOps F] in
/-- A device's result and relay buffer, cut, are what its entry signals hand over. -/
theorem hand_over (c : Dev nD) (g : S1x2048x1024.Idx → Elt F .f32) (r : S1x1024x1024.Idx → Elt F .f32) :
    iprop(outCut (F := F) c g ∗ relCut (F := F) c r)
      ⊢ iprop(pay s m 3 (tgt s c 3) ∗ pay s m 4 (tgt s c 4) ∗ pay s m 5 (tgt s c 5)) := by
  have h3 : (show Fin 32 from tgt s c 3) + s = c := back_s c s
  have h4 : (show Fin 32 from tgt s c 4) + 1 = c := back_1 c
  have h5 : (show Fin 32 from tgt s c 5) + (s - 1) = c := back_p c s
  show _ ⊢ iprop(fillS (F := F) s (tgt s c 3) ∗ fill1 (F := F) (tgt s c 4) ∗ fillP (F := F) s (tgt s c 5))
  unfold fillS fill1 fillP
  rw [h3, h4, h5]
  iintro ⟨⟨Ho0, Ho1, Ho2, Ho3, Ho4⟩, Hr0, Hr1, Hr2, Hr3⟩
  isplitl [Ho0]; · iexists g; iexact Ho0
  isplitl [Hr0 Hr1 Ho3 Ho4]
  · isplitl [Hr0]; · iexists r; iexact Hr0
    isplitl [Hr1]; · iexists r; iexact Hr1
    isplitl [Ho3]; · iexists g; iexact Ho3
    iexists g; iexact Ho4
  isplitl [Hr2]; · iexists r; iexact Hr2
  isplitl [Hr3]; · iexists r; iexact Hr3
  isplitl [Ho1]; · iexists g; iexact Ho1
  iexists g; iexact Ho2

/-! ## The body -/

/-- What a device's body starts from, beside the shared context. -/
def bodyStart (c : Dev nD) (f : Buf (Elt F) ((c : Thread nD τ).loc cc0_stg0_0)) : sProp 𝕄 :=
  iprop(Own (F := F) s c 0 ∗ Wt (F := F) c 0 ∗ (((c : Thread nD τ).loc cc0_stg0_0) ↦{fullShare} f)
    ∗ (((c : Thread nD τ).loc main_arg0) ↦{fullShare} X m c) ∗ (∃ g, ((c : Thread nD τ).loc main_v1) ↦{fullShare} g)
    ∗ (∃ r, ((c : Thread nD τ).loc cc0_scratch0) ↦{fullShare} r))
/-- What it ends with: everything paid, every semaphore at zero, the result filled with the block of device `c - s`. -/
def bodyEnd (c : Dev nD) (f : Buf (Elt F) ((c : Thread nD τ).loc cc0_stg0_0)) : sProp 𝕄 :=
  iprop(Own (F := F) s c 21 ∗ Wt (F := F) c 20 ∗ (((c : Thread nD τ).loc cc0_stg0_0) ↦{fullShare} f)
    ∗ (((c : Thread nD τ).loc main_arg0) ↦{fullShare} X m c) ∗ (((c : Thread nD τ).loc main_v1) ↦{fullShare} outF s m c)
    ∗ (∃ r, ((c : Thread nD τ).loc cc0_scratch0) ↦{fullShare} r))

/-- The body, from the word of `pi` naming device `c + s`. -/
theorem whole_body (c : Dev nD) (f : Buf (Elt F) ((c : Thread nD τ).loc cc0_stg0_0))
    (hf : ((piM).access (rPi c) : View sig .tc _ _ _).read (Elt F) f (Shape.Idx.first (s := S1) (numel1_S1.symm ▸ Nat.one_pos)) = wordAt s c)
    (Q : PUnit → sProp 𝕄) :
    iprop((ctx s m K ∗ bodyStart s m c f) ∗ (bodyEnd s m c f -∗ Q ⟨⟩))
      ⊢ (wpt c) (cc0_body (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0) Q := by
  rw [cc0_body_eq_skeleton]; unfold cc0_body_skel
  unfold bodyStart bodyEnd
  iintro ⟨⟨#Hctx, HO, HW, Hpi, Hx, ⟨%g, Hout⟩, ⟨%r, Hrel⟩⟩, Hk⟩
  ihave Hx := (x_cut c (X m c)).1 $$ Hx
  icases Hx with ⟨Hx0, Hx1, Hx2, Hx3, Hx4⟩
  ihave Hout := (out_cut c g).1 $$ Hout
  ihave Hrel := (rel_cut c r).1 $$ Hrel
  ihave Hp := (hand_over s m c g r) $$ [Hout Hrel]
  · isplitl [Hout] <;> iassumption
  rw [wp_bind]
  iapply (part1 s m K c f hf)
  isplitl [HO Hpi]
  · isplitr; · iexact Hctx
    isplitl [HO] <;> iassumption
  iintro %v6 %v9 %v14 %v17 %v20 %v28 ⟨HO, Hpi⟩
  rw [wp_bind]
  iapply (part2 s m K c (check s c) v6 v17 v20 v28)
  isplitl [HO HW Hp Hx0 Hx1]
  · isplitr; · iexact Hctx
    isplitl [HO]; · iexact HO
    isplitl [HW]; · iexact HW
    isplitl [Hp]; · iexact Hp
    isplitl [Hx0] <;> iassumption
  iintro ⟨HO, HW, Hc5, Hc7, ⟨Hr1, Ho3, Ho4⟩, HP⟩
  rw [wp_bind]
  iapply (part3 s m K c (check s c) v6 v9)
  isplitl [HO Hr1 HP Hx2 Hx3 Hx4]
  · isplitr; · iexact Hctx
    isplitl [HO]; · iexact HO
    isplitl [Hr1]; · iexact Hr1
    isplitl [HP]; · iexact HP
    isplitl [Hx2]; · iexact Hx2
    isplitl [Hx3] <;> iassumption
  iintro ⟨HO, Hc13, Hc8, Hc14, Ho1, Ho2⟩
  rw [wp_bind]
  iapply (part4 s m K c (check s c) v6 v9)
  isplitl [HO HW Ho1 Ho2]
  · isplitr; · iexact Hctx
    isplitl [HO]; · iexact HO
    isplitl [HW]; · iexact HW
    isplitl [Ho1] <;> iassumption
  iintro ⟨HO, HW, Hc9, Hc15⟩
  rw [wp_bind]
  iapply (part5 s m K c v6 v9)
  isplitl [HO HW Ho3]
  · isplitr; · iexact Hctx
    isplitl [HO]; · iexact HO
    isplitl [HW] <;> iassumption
  iintro ⟨HO, HW, Hc11, Hr3⟩
  rw [wp_bind]
  iapply (part6 s m K c (wordAt s c))
  isplitl [HO HW Hr3 Ho4 Hc5 Hc7]
  · isplitr; · iexact Hctx
    isplitl [HO]; · iexact HO
    isplitl [HW]; · iexact HW
    isplitl [Hr3]; · iexact Hr3
    isplitl [Ho4]; · iexact Ho4
    isplitl [Hc5] <;> iassumption
  iintro ⟨HO, HW, Hc17, Hg5, Hg6, Hg7⟩
  rw [wp_bind]
  iapply (part7 s m K c v6 v9)
  isplitl [HO HW Hc8 Hc9 Hc11]
  · isplitr; · iexact Hctx
    isplitl [HO]; · iexact HO
    isplitl [HW]; · iexact HW
    isplitl [Hc8]; · iexact Hc8
    isplitl [Hc9] <;> iassumption
  iintro ⟨HO, HW, Hg8, Hg9, Hg10, Hg11⟩
  rw [wp_bind]
  iapply (part8 s m K c v9)
  isplitl [HO HW Hc13 Hc14 Hc15]
  · isplitr; · iexact Hctx
    isplitl [HO]; · iexact HO
    isplitl [HW]; · iexact HW
    isplitl [Hc13]; · iexact Hc13
    isplitl [Hc14] <;> iassumption
  iintro ⟨HO, HW, Hg12, Hg13, Hg14, Hg15⟩
  rw [wp_bind]
  iapply (part9 s m K c (check s c) v6 v9 v14)
  isplitl [HO HW Hc17]
  · isplitr; · iexact Hctx
    isplitl [HO]; · iexact HO
    isplitl [HW] <;> iassumption
  iintro ⟨HO, HW, Hg16, Hg17, Hg18⟩
  simp only [semSignalWord, semWaitWord, Prog.lift, Prog.bind_op, Prog.bind_ret, Prog.pure_eq_ret]
  iapply (step_signal_plain s m K c 19 (by decide) _ (dev_eq s (k0_dev20_lt c) (left_dev c)) cc0_scoped0.sem rfl) $$ [HO]
  · isplitr; · iexact Hctx
    iexact HO
  iintro HO
  iapply (step_signal_plain s m K c 20 (by decide) _ (dev_eq s (k0_dev21_lt c _ (check s c)) (after_dev s c)) cc0_scoped0.sem rfl) $$ [HO]
  · isplitr; · iexact Hctx
    iexact HO
  iintro HO
  iapply (step_wait s m K c 19 (by decide) 21 (by decide) (wpE_semWait_eq 𝒱₀ (c : Thread nD τ) none Set.univ) rfl rfl) $$ [HO HW]
  · isplitr; · iexact Hctx
    isplitl [HO]; · iexact HO
    iexact HW
  iintro ⟨HO, HW, -⟩
  rw [wp_ret]; imodintro
  iapply Hk
  isplitl [HO]; · iexact HO
  isplitl [HW]; · iexact HW
  isplitl [Hpi]; · iexact Hpi
  isplitl [Hg5 Hg7 Hg13 Hg8 Hg14]
  · iapply (show iprop(got s m c 5 ∗ got s m c 7 ∗ got s m c 13 ∗ got s m c 8 ∗ got s m c 14) ⊢ _ from (x_cut c (X m c)).2)
    isplitl [Hg5]; · iexact Hg5
    isplitl [Hg7]; · iexact Hg7
    isplitl [Hg13]; · iexact Hg13
    isplitl [Hg8] <;> iassumption
  isplitl [Hg6 Hg10 Hg16 Hg12 Hg18]
  · iapply (show iprop(got s m c 6 ∗ got s m c 10 ∗ got s m c 16 ∗ got s m c 12 ∗ got s m c 18) ⊢ _ from (out_cut c (outF s m c)).2)
    isplitl [Hg6]; · iexact Hg6
    isplitl [Hg10]; · iexact Hg10
    isplitl [Hg16]; · iexact Hg16
    isplitl [Hg12] <;> iassumption
  iexists (relF s m c)
  iapply (show iprop(got s m c 9 ∗ got s m c 15 ∗ got s m c 11 ∗ got s m c 17) ⊢ _ from (rel_cut c (relF s m c)).2)
  isplitl [Hg9]; · iexact Hg9
  isplitl [Hg15]; · iexact Hg15
  isplitl [Hg11] <;> iassumption

end

end Cert.Rotate

end
-- ==== Proof.Deal.lean ====
/-
# What the launch deals

The launch creates, for each device, the credits for what all the devices owe its semaphores, its positions at them, and the
tokens of the duties addressed to it. Here they become what the device's body starts from: the credits wait by wait, and the
tokens of the duties it makes itself, dealt around among the devices.
-/
module

public import proofs.«01_k».proof.Proof.Body

@[expose] public section

noncomputable section

namespace Cert.Rotate

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (s : Fin 32)

/-! ## Credits -/

theorem sub_add_self32 : ∀ a b : Fin 32, a - b + b = a := by decide +kernel

/-- Going a fixed distance around is a permutation of the devices. -/
def shift (x : Fin 32) : Dev nD ≃ Dev nD where
  toFun c := (show Fin 32 from c) + x
  invFun c := (show Fin 32 from c) - x
  left_inv c := add_sub_self32 c x
  right_inv c := sub_add_self32 c x

/-- The wait's semaphore takes its duties' contributions. -/
theorem sum_amt (i : Fin 20) : ∑ d ∈ Finset.univ.filter (fun d : Fin 30 => cix d = cix (wd i)), amt d = wamt i := by
  rw [wait_duties]; unfold wamt
  by_cases h0 : i.val = 0
  · rw [if_pos h0, if_pos (Or.inl h0)]; rfl
  · by_cases h1 : i.val = 19
    · rw [if_neg h0, if_pos h1, if_pos (Or.inr h1)]; rfl
    · rw [if_neg h0, if_neg h1, if_neg (fun h => h.elim h0 h1), Finset.sum_singleton]

/-- One device contributes duty `d` to device `c`, of all those that make the duty. -/
theorem owed_once (c : Dev nD) (j : Fin 20) (d : Fin 30) :
    (∑ e : Dev nD, tallyAt (cell (tgt s e d) d) () (amt d) (kcell (c, j)) ()) = if cix d = j then amt d else 0 := by
  have hs : ∀ e : Dev nD, tallyAt (cell (tgt s e d) d) () (amt d) (kcell (c, j)) () = if e = (shift (disp s d)).symm c then (if cix d = j then amt d else 0) else 0 := by
    intro e
    rw [tallyAt_apply]
    by_cases he : e = (shift (disp s d)).symm c
    · subst he
      have ht : tgt s ((shift (disp s d)).symm c) d = c := (shift (disp s d)).apply_symm_apply c
      rw [if_pos rfl, ht]
      by_cases hj : cix d = j
      · subst hj; rw [if_pos ⟨rfl, rfl⟩, if_pos rfl]
      · rw [if_neg (fun h => hj (ksem_inj (congrArg Prod.snd h.1)).symm), if_neg hj]
    · rw [if_neg he, if_neg]
      rintro ⟨h, -⟩
      refine he (((shift (disp s d)).symm_apply_eq).mpr ?_).symm
      have h1 : c = tgt s e d := congrArg (fun g : GSem nD τ sig => g.1.1) h
      exact h1
  rw [Finset.sum_congr rfl fun e _ => hs e, Finset.sum_ite_eq' Finset.univ, if_pos (Finset.mem_univ _)]

/-- What the devices together owe the semaphore of a wait that the launch deals the credit for is what the wait takes. -/
theorem owed_wait (c : Dev nD) (i : Fin 20) (hi : (wd i).val < 21) : (∑ e : Dev nD, Ow s e 0 (wcell c i) ()) = wamt i := by
  have h : ∀ e : Dev nD, Ow s e 0 (wcell c i) () = ∑ d ∈ Finset.univ.filter (fun d : Fin 30 => 0 ≤ d.val ∧ d.val < 21),
      tallyAt (cell (tgt s e d) d) () (amt d) (kcell (c, cix (wd i))) () := by
    intro e; unfold Ow; rw [Finset.sum_apply, Finsupp.finset_sum_apply]
  rw [Finset.sum_congr rfl fun e _ => h e, Finset.sum_comm, Finset.sum_congr rfl fun d _ => owed_once s c (cix (wd i)) d, ← Finset.sum_filter,
    ← sum_amt i, Finset.filter_filter]
  congr 1
  have : ∀ i : Fin 20, (wd i).val < 21 → ∀ d : Fin 30, cix d = cix (wd i) → d.val < 21 := by decide +kernel
  exact Finset.filter_congr fun d _ => ⟨fun h => h.2, fun h => ⟨⟨Nat.zero_le _, this i hi d h⟩, h⟩⟩

theorem wsem_inj : Function.Injective (fun i : Fin 20 => cix (wd i)) := by decide
/-- The waits, one for each semaphore. -/
def waits : Fin 20 ≃ Fin 20 := Equiv.ofBijective (fun i => cix (wd i)) (Finite.injective_iff_bijective.mp wsem_inj)

omit [FloatOps F] in
/-- The launch's credits, wait by wait. -/
theorem creds (c : Dev nD) : (Pipeline.launchCred (fun e => Ow s e 0) c : sProp 𝕄)
    ⊢ bigSep Finset.univ (fun i : Fin 20 => if (wd i).val < 21 then wcred (F := F) c i else iprop(emp)) := by
  refine BIBase.Entails.trans ?_ (Entails.of_eq (bigSep_filter Finset.univ (fun i : Fin 20 => (wd i).val < 21) (fun i => wcred (F := F) c i)))
  unfold Pipeline.launchCred
  refine (bigSep_subset (t := (Finset.univ.filter fun i : Fin 20 => (wd i).val < 21).image fun i => csem (wd i)) (Finset.subset_univ _)).trans ?_
  rw [bigSep_image_of_injOn (fun i _ i' _ h => wsem_inj (ksem_inj h))]
  refine Entails.of_eq (bigSep_congr fun i hi => ?_)
  unfold wcred tallyAt
  refine congrArg _ (congrArg _ (Finsupp.ext fun u => ?_)); cases u
  rw [Pipeline.launchCredit_owing, Finsupp.single_eq_same]
  exact owed_wait s c i (Finset.mem_filter.mp hi).2

omit [FloatOps F] in
/-- Positions and credits are what the waits start from; -/
theorem Wt_start (c : Dev nD) :
    iprop(bigSep Finset.univ (fun j : Fin 20 => (atPos ER (kcell (c, j)) 0 ∅ 0 : sProp 𝕄)) ∗ Pipeline.launchCred (fun e => Ow s e 0) c) ⊢ Wt (F := F) c 0 := by
  unfold Wt wpre
  rw [Finset.filter_true_of_mem (fun i _ => Nat.zero_le i.val), Finset.filter_false_of_mem (fun i _ => Nat.not_lt_zero i.val), bigSep_empty, bigSep_sep',
    bigSep_univ_equiv waits]
  iintro ⟨Ha, Hc⟩
  isplitl
  · isplitl [Ha]; · iexact Ha
    iapply (creds s c); iexact Hc
  iempintro

omit [FloatOps F] in
/-- and what they end with is every semaphore at zero. -/
theorem Wt_end (c : Dev nD) : Wt (F := F) c 20 ⊢ bigSep Finset.univ (fun j : Fin 20 => (semVal (kcell (c, j)) 0 : sProp 𝕄)) := by
  unfold Wt
  rw [Finset.filter_true_of_mem (p := fun i : Fin 20 => i.val < 20) (fun i _ => i.isLt), bigSep_univ_equiv waits (fun j : Fin 20 => (semVal (kcell (c, j)) 0 : sProp 𝕄))]
  iintro ⟨-, H⟩
  iexact H

/-! ## Tokens -/

/-- The tokens of the duties addressed to device `c`. -/
def toks (c : Dev nD) : sProp 𝕄 := bigSep Finset.univ fun d : Fin 30 => dutyTok ER (cell c d) 0 d

omit [FloatOps F] in
/-- Dealt around, each device has the tokens of the duties it makes; -/
theorem toks_around : (bigSep Finset.univ fun c : Dev nD => toks (F := F) c)
    = bigSep Finset.univ fun c : Dev nD => bigSep Finset.univ fun d : Fin 30 => tok (F := F) s c d := by
  unfold toks tok
  rw [bigSep_univ_comm, bigSep_univ_comm (fun (c : Dev nD) (d : Fin 30) => (dutyTok ER (cell (tgt s c d) d) 0 d : sProp 𝕄))]
  exact bigSep_congr fun d _ => bigSep_univ_equiv (shift (disp s d)) _

omit [FloatOps F] in
/-- which are the tokens of its payments, a transfer's two together. -/
theorem toks_paid (c : Dev nD) : (bigSep Finset.univ fun d : Fin 30 => tok (F := F) s c d) ⊢ bigSep (dueFrom 0) fun d => tk (F := F) s c d := by
  have hsd : Function.Injective sd := by decide
  have hp : ∀ d : Fin 30, 6 ≤ d.val ∧ d.val < 15 → tk (F := F) s c d = iprop(tok (F := F) s c d ∗ tok (F := F) s c (sd d)) := fun d h => by
    unfold tk; rw [if_pos h]
  have hn : ∀ d : Fin 30, ¬(6 ≤ d.val ∧ d.val < 15) → tk (F := F) s c d = tok (F := F) s c d := fun d h => by
    unfold tk; rw [if_neg h]
  have h1 : (Finset.univ.filter fun d : Fin 30 => ¬d.val < 21) = ((dueFrom 0).filter fun d => 6 ≤ d.val ∧ d.val < 15).image sd := by decide
  have h2 : (Finset.univ.filter fun d : Fin 30 => d.val < 21) = dueFrom 0 := by decide
  rw [bigSep_filter_split Finset.univ (fun d : Fin 30 => d.val < 21), h1, h2, bigSep_image_of_injOn (fun _ _ _ _ h => hsd h),
    bigSep_filter_split (dueFrom 0) (fun d => 6 ≤ d.val ∧ d.val < 15) (Φ := fun d => tok (F := F) s c d),
    bigSep_filter_split (dueFrom 0) (fun d => 6 ≤ d.val ∧ d.val < 15) (Φ := fun d => tk (F := F) s c d),
    bigSep_congr (s := (dueFrom 0).filter fun d => 6 ≤ d.val ∧ d.val < 15) (Φ := fun d => tk (F := F) s c d)
      (fun d hd => show tk (F := F) s c d = iprop(tok (F := F) s c d ∗ tok (F := F) s c (sd d)) from hp d (Finset.mem_filter.mp hd).2),
    bigSep_congr (s := (dueFrom 0).filter fun d => ¬(6 ≤ d.val ∧ d.val < 15)) (Φ := fun d => tk (F := F) s c d)
      (fun d hd => show tk (F := F) s c d = tok (F := F) s c d from hn d (Finset.mem_filter.mp hd).2), bigSep_sep']
  show iprop((_ ∗ _) ∗ _) ⊢ iprop((_ ∗ _) ∗ _)
  iintro ⟨⟨H1, H2⟩, H3⟩
  isplitr [H2]
  · isplitl [H1] <;> iassumption
  iexact H2

end

end Cert.Rotate

end
-- ==== Proof.Run.lean ====
/-
# The run

From any memory in which word `c` of `pi` on device `c` names device `c + s`, every execution ends with device `e`'s result
the input block of device `e - s`, the arguments unchanged and every semaphore at zero.
-/
module

public import proofs.«01_k».proof.Proof.Deal
public import proofs.«01_k».proof.Proof.Gen.KernelIdeal.Points
public import Idealize.ShloMosaic.Lib.Pipeline.CollectiveSegs

@[expose] public section

noncomputable section

namespace Cert.Rotate

open Cert.KernelIdeal Cert.KernelIdeal.Gen

open Idealize.ShloMosaic
open Idealize.ShloMosaic.TcCoe
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "wpt" c => wp frame (wpE (defs₀ (F := F)) 𝒱₀ (Dev.tc c : Thread nD τ) none) Set.univ

section

variable (s : Fin 32) (m : (ℓ : Loc nD τ sig) → Buf (Elt F) ℓ)

/-- Word `c` of `pi` on device `c` names device `c + s`. -/
def Rotates : Prop := ∀ (c : Dev nD) (i : S32.Idx), (i 0).val = c.val → m ((c : Thread nD τ).loc main_arg1) i = wordAt s c

/-- `pi` as staged on device `c`. -/
def piStg (c : Dev nD) : (cc0_stg0_0 : Ref sig .tc).ty.Contents (Elt F) :=
  (win0_0.blk (0 : Fin 1)).view.read (Elt F) (m ((c : Thread nD τ).loc main_arg1))

omit [FloatOps F] in
/-- The word the body reads there. -/
theorem word_stg (h : Rotates s m) (c : Dev nD) :
    ((piM).access (rPi c) : View sig .tc _ _ _).read (Elt F) (piStg m c) (Shape.Idx.first (s := S1) (numel1_S1.symm ▸ Nat.one_pos)) = wordAt s c := by
  show m ((c : Thread nD τ).loc main_arg1) _ = _
  refine h c _ ?_
  fin_cases c <;> rfl

/-! ## The kernel's stages -/

/-- Before the body: the shared context, the tokens and positions, the buffers. -/
def Φ₀ (c : Dev nD) : sProp 𝕄 :=
  iprop((∃ K, ctx s m K) ∗ bigSep (dueFrom 0) (fun d => tk (F := F) s c d) ∗ Wt (F := F) c 0
    ∗ (((c : Thread nD τ).loc main_arg0) ↦{fullShare} X m c) ∗ (∃ g, ((c : Thread nD τ).loc main_v1) ↦{fullShare} g)
    ∗ (∃ r, ((c : Thread nD τ).loc cc0_scratch0) ↦{fullShare} r))
/-- After it. -/
def Φ₁ (c : Dev nD) : sProp 𝕄 :=
  iprop(Wt (F := F) c 20 ∗ (((c : Thread nD τ).loc main_arg0) ↦{fullShare} X m c) ∗ (((c : Thread nD τ).loc main_v1) ↦{fullShare} outF s m c)
    ∗ (∃ r, ((c : Thread nD τ).loc cc0_scratch0) ↦{fullShare} r))

def dats (_ : Fin 1) (c : Dev nD) : Dat τ (Elt F) Unit ℕ UU ℕ cfg0 c where
  A w := m ((cfg0.win w).arr.view.loc (c : Thread nD τ))
  after w _ := match w with
    | ⟨0, _⟩ => piStg m c
  Φ t := match t with
    | ⟨0, _⟩ => Φ₀ s m c
    | ⟨_ + 1, _⟩ => Φ₁ s m c
  q _ := fullShare
  owed t := match t with
    | ⟨0, _⟩ => Ow s c 0
    | ⟨_ + 1, _⟩ => 0

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

def bodyPre (c : Dev nD) : sProp 𝕄 :=
  iprop(Φ₀ s m c ∗ (dats s m 0 c).owesAt () t0_0.castSucc ∗ (∃ d, stg c cc0_stg0_0 ((dats s m 0 c).before (0 : Fin 1) t0_0 d)))
def bodyPost (c : Dev nD) : sProp 𝕄 :=
  iprop(Φ₁ s m c ∗ (dats s m 0 c).owesAt () t0_0.succ ∗ stg c cc0_stg0_0 (piStg m c))

theorem body_ok (h : Rotates s m) (c : Dev nD) :
    bodyPre s m c ⊢ (wpt c) (cc0_body (Memref.whole main_arg0) (Memref.isWhole_whole _) piM (Memref.isWhole_whole _) (Memref.whole main_v1) (Memref.isWhole_whole _)
          (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scoped0) (fun _ => bodyPost s m c) := by
  unfold bodyPre bodyPost Φ₀ Φ₁
  iintro ⟨⟨⟨%K, #Hctx⟩, Ht, HW, Hx, Hout, Hrel⟩, Ho, ⟨%d0, %g0, %hg0, Hpi⟩⟩
  have hp : g0 = piStg m c := by rw [hg0]; unfold Dat.before; rw [if_pos (fetch0_0 t0_0)]; rfl
  subst hp
  unfold Dat.owesAt Pipeline.owesWithin
  icases Ho with ⟨%W, %hW, HO⟩
  rw [show (dats s m 0 c).owed t0_0.castSucc = Ow s c 0 from rfl, show (dats s m 0 c).owed t0_0.succ = 0 from rfl]
  iapply (whole_body s m K c (piStg m c) (word_stg s m h c) _)
  unfold bodyStart bodyEnd Own
  isplitr []
  · isplitr; · iexact Hctx
    isplitl [HO Ht]
    · isplitl [HO]; · iexists W; iexact HO
      iexact Ht
    isplitl [HW]; · iexact HW
    isplitl [Hpi]; · iexact Hpi
    isplitl [Hx]; · iexact Hx
    isplitl [Hout] <;> iassumption
  rw [Ow_end]
  iintro ⟨⟨⟨%W', HO⟩, -⟩, HW, Hpi, Hx, Hout, Hrel⟩
  isplitl [HW Hx Hout Hrel]
  · isplitl [HW]; · iexact HW
    isplitl [Hx]; · iexact Hx
    isplitl [Hout] <;> iassumption
  isplitl [HO]
  · iexists W'
    isplitr; · ipureintro; exact fun _ _ => Or.inl trivial
    iexact HO
  iexists _; isplitr; · (ipureintro; rfl)
  iexact Hpi

theorem body_obligation (h : Rotates s m) (c : Dev nD) : Pipeline.BodyObligation (dats (F := F) s m 0 c) (defs₀ (F := F)) 𝒱₀ () Set.univ := fun t => by
  rw [fin_N0 t, bigSep_W0, bigSep_W0]
  simp only [owns_whole_eq]
  exact body_ok s m h c

/-! ## The launch -/

/-- The kernel's own semaphores: all but the entry barrier's. -/
abbrev osem (k : Fin 19) : SemLoc sig := ksem k.succ
theorem ownSemFacts : Pipeline.OwnSemFacts cfg0.spec osem := by decide

omit [FloatOps F] in
theorem share_eq (c : Dev nD) (w : Fin cfg0.W) : (dats s m 0 c).share w = fullShare := by unfold Dat.share; split <;> rfl

theorem kcell_injective : Function.Injective (kcell : Dev nD × Fin 20 → GSem nD τ sig) := by
  rintro ⟨c, k⟩ ⟨c', k'⟩ h
  have h1 : c = c' := congrArg (fun g : GSem nD τ sig => g.1.1) h
  have h2 : k = k' := ksem_inj (congrArg Prod.snd h)
  rw [h1, h2]

def tokOf (cd : Dev nD × Fin 30) : GSem nD τ sig × ℕ × Fin 30 := (cell cd.1 cd.2, 0, cd.2)
theorem tokOf_injective : Function.Injective tokOf := by
  rintro ⟨c, d⟩ ⟨c', d'⟩ h
  have h1 : c = c' := congrArg (fun x : GSem nD τ sig × ℕ × Fin 30 => x.1.1.1) h
  have h2 : d = d' := congrArg (fun x : GSem nD τ sig × ℕ × Fin 30 => x.2.2) h
  rw [h1, h2]

def allCells : Finset (GSem nD τ sig) := Finset.univ.map ⟨kcell, kcell_injective⟩
def allToks : Finset (GSem nD τ sig × ℕ × Fin 30) := Finset.univ.map ⟨tokOf, tokOf_injective⟩

def u₀ : UU :=
  (initOf (Pipeline.cells cfgs cellOf_inj) (Pipeline.launchToks cfgs cellOf_inj), initOf allCells allToks)

/-- What the launch deals device `c`. -/
def G (c : Dev nD) : sProp 𝕄 :=
  iprop((bigSep Finset.univ fun j : Fin 20 => roundState ER (Rd (F := F) s m) (kcell (c, j)) 0)
    ∗ (bigSep Finset.univ fun j : Fin 20 => (reached ER (kcell (c, j)) 0 : sProp 𝕄))
    ∗ (bigSep Finset.univ fun j : Fin 20 => (atPos ER (kcell (c, j)) 0 ∅ 0 : sProp 𝕄)) ∗ toks (F := F) c)
/-- What it has of it once the invariants are made and the tokens dealt around. -/
def G' (c : Dev nD) : sProp 𝕄 :=
  iprop((∃ K, records s m K) ∗ (bigSep Finset.univ fun j : Fin 20 => (atPos ER (kcell (c, j)) 0 ∅ 0 : sProp 𝕄))
    ∗ bigSep Finset.univ fun d : Fin 30 => tok (F := F) s c d)

omit [FloatOps F] in
theorem fund_all : BI.own (ER (initOf allCells allToks)) ⊢ (|==> bigSep Finset.univ (G s m) : sProp 𝕄) := by
  have hX (Φ : GSem nD τ sig → sProp 𝕄) : bigSep allCells Φ = bigSep Finset.univ fun c : Dev nD => bigSep Finset.univ fun j : Fin 20 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd (F := F) s m) allCells allToks) $$ HX with ⟨Hst, Hr, Hat, Htok⟩
  imodintro
  ihave Hst' := (Entails.of_eq (hX fun g => roundState ER (Rd (F := F) s m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat'] <;> iassumption

omit [FloatOps F] in
/-- The kernel's own semaphores and the entry barrier's are the twenty. -/
theorem sems_eq (c : Dev nD) : (bigSep Finset.univ fun j : Fin 20 => (semVal (kcell (c, j)) 0 : sProp 𝕄))
    = iprop(unscopedSems0 c ∗ Pipeline.ownSems0 (Ix := Unit) (Name := ℕ) (U := UU) (Lvl := ℕ) (Val := Elt F) (τ := τ) osem c) := by
  have h0 : (unscopedSems0 c : sProp 𝕄) = semVal (kcell (c, 0)) 0 := by
    unfold unscopedSems0; rw [bigSep_eq_bigSepL_of_eq [ksem 0] (by decide) (by decide)]; rfl
  have h1 : (Finset.univ : Finset (Fin 20)) = insert 0 (Finset.univ.map ⟨Fin.succ, Fin.succ_injective 19⟩) := by decide
  rw [h0, h1, bigSep_insert (by decide), bigSep_map]
  rfl

omit [FloatOps F] in
theorem core_alloc (c : Dev nD) :
    iprop(Pipeline.ownSems0 (Ix := Unit) (Name := ℕ) (U := UU) (Lvl := ℕ) (Val := Elt F) (τ := τ) osem c ∗ unscopedSems0 c ∗ G s m c)
      ⊢ |={Set.univ}=> iprop((bigSep Finset.univ fun j => iprop(∃ κ : ℕ, cellInv ER (Rd (F := F) s m) κ (kcell (c, j))))
          ∗ (bigSep Finset.univ fun j : Fin 20 => (reached ER (kcell (c, j)) 0 : sProp 𝕄))
          ∗ (bigSep Finset.univ fun j : Fin 20 => (atPos ER (kcell (c, j)) 0 ∅ 0 : sProp 𝕄)) ∗ toks (F := F) c) := by
  unfold G
  iintro ⟨Hos, Hus, Hst, Hrest⟩
  ihave Hv := (Entails.of_eq (sems_eq (F := F) c).symm) $$ [Hos Hus]
  · isplitl [Hus] <;> iassumption
  imod (show iprop((bigSep Finset.univ fun j : Fin 20 => semVal (kcell (c, j)) 0) ∗ bigSep Finset.univ fun j : Fin 20 => roundState ER (Rd (F := F) s m) (kcell (c, j)) 0)
      ⊢ (|={Set.univ}=> bigSep Finset.univ fun j => iprop(∃ κ : ℕ, cellInv ER (Rd (F := F) s m) κ (kcell (c, j))) : sProp 𝕄) from by
        rw [← bigSep_sep']
        exact (bigSep_mono fun j _ => (Rounds.body_intro ER (Rd (F := F) s m) (kcell (c, j))).trans inv_alloc).trans (bigSep_fupd _ _)) $$ [Hv Hst] with Hinv
  · isplitl [Hv] <;> iassumption
  imodintro
  isplitl [Hinv] <;> iassumption

omit [FloatOps F] in
/-- Every device gets the records of all the invariants, and its share of the tokens. -/
theorem regroup :
    (bigSep Finset.univ fun c : Dev nD => iprop((bigSep Finset.univ fun j => iprop(∃ κ : ℕ, cellInv ER (Rd (F := F) s m) κ (kcell (c, j))))
          ∗ (bigSep Finset.univ fun j : Fin 20 => (reached ER (kcell (c, j)) 0 : sProp 𝕄))
          ∗ (bigSep Finset.univ fun j : Fin 20 => (atPos ER (kcell (c, j)) 0 ∅ 0 : sProp 𝕄)) ∗ toks (F := F) c) : sProp 𝕄)
      ⊢ bigSep Finset.univ (G' s m) := by
  rw [bigSep_sep', bigSep_sep', bigSep_sep', toks_around s,
    ← bigSep_univ_prod (fun cj : Dev nD × Fin 20 => iprop(∃ κ : ℕ, cellInv ER (Rd (F := F) s m) κ (kcell cj))),
    ← bigSep_univ_prod (fun cj : Dev nD × Fin 20 => (reached ER (kcell cj) 0 : sProp 𝕄))]
  iintro ⟨HI, #HR, Hat, Htok⟩
  ihave HK := (BI.bigSep_exists_pi Finset.univ (fun (cj : Dev nD × Fin 20) (κ : ℕ) => (cellInv ER (Rd (F := F) s m) κ (kcell cj) : sProp 𝕄))) $$ HI
  icases HK with ⟨%K, #HI⟩
  iapply (bigSep_with_persistent (R := records s m K) (Φ := fun c : Dev nD => iprop((bigSep Finset.univ fun j : Fin 20 => (atPos ER (kcell (c, j)) 0 ∅ 0 : sProp 𝕄))
      ∗ bigSep Finset.univ fun d : Fin 30 => tok (F := F) s c d)) fun c _ => by
    unfold G'
    iintro ⟨#H, H'⟩
    isplitr; · iexists K; iexact H
    iexact H')
  isplitr
  · unfold records; isplitl; · iexact HI
    iexact HR
  rw [bigSep_sep']
  isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G s m c) : sProp 𝕄)
    ⊢ |={Set.univ}=> bigSep Finset.univ (G' s m) :=
  ((bigSep_mono fun c _ => core_alloc s m c).trans (bigSep_fupd _ _)).trans (BI.fupd_mono (regroup s m))

/-- What a device brings to its body beside the relay buffer. -/
def start (c : Dev nD) : sProp 𝕄 :=
  iprop((∃ K, ctx s m K) ∗ bigSep (dueFrom 0) (fun d => tk (F := F) s c d) ∗ Wt (F := F) c 0
    ∗ (((c : Thread nD τ).loc main_arg0) ↦{fullShare} X m c) ∗ (∃ g, ((c : Thread nD τ).loc main_v1) ↦{fullShare} g))

omit [FloatOps F] in
theorem start_intro (g : Dev nD → PrngReg) (c : Dev nD) :
    iprop(Pipeline.unscopedRestP Pipeline.Prefetch.none cfg0.spec c (fun b => m ((c : Thread nD τ).loc b)) ∗ levAts L lv
        ∗ Pipeline.launchCred (fun e => Ow s e 0) c ∗ prngReg c (g c) ∗ G' s m c)
      ⊢ |={Set.univ}=> iprop(start s m c ∗ emp) := by
  rw [Pipeline.unscopedRestP_none, unscopedRest0_eq]
  unfold start G' ctx
  iintro ⟨⟨Hx, Hout⟩, Hlev, Hcr, -, ⟨%K, HK⟩, Hat, Htok⟩
  imodintro
  isplitl
  · isplitl [HK Hlev]
    · iexists K; isplitl [HK] <;> iassumption
    isplitl [Htok]; · iapply (toks_paid s c); iexact Htok
    isplitl [Hat Hcr]
    · iapply (Wt_start s c); isplitl [Hat] <;> iassumption
    isplitl [Hx]; · iexact Hx
    iexists _; iexact Hout
  · iempintro

omit [FloatOps F] in
theorem phi0_intro (c : Dev nD) :
    iprop(start s m c ∗ Pipeline.prefHeld Pipeline.Prefetch.none c (fun _ => fullShare.right) (fun k => k.elim0) ∗ Pipeline.scopedRest cfg0.spec c)
      ⊢ (dats s m 0 c).Φ 0 := by
  rw [show (dats s m 0 c).Φ 0 = Φ₀ s m c from rfl, scopedRest0_eq]
  unfold Φ₀ start
  iintro ⟨⟨HK, Ht, HW, Hx, Hout⟩, -, Hr⟩
  isplitl [HK]; · iexact HK
  isplitl [Ht]; · iexact Ht
  isplitl [HW]; · iexact HW
  isplitl [Hx]; · iexact Hx
  isplitl [Hout] <;> iassumption

/-- What the exit keeps to read the final state by. -/
def keep (c : Dev nD) : sProp 𝕄 :=
  iprop(unscopedSems0 c ∗ (((c : Thread nD τ).loc main_arg0) ↦{fullShare} X m c) ∗ (((c : Thread nD τ).loc main_v1) ↦{fullShare} outF s m c))

omit [FloatOps F] in
theorem phi1_exit (c : Dev nD) :
    (dats s m 0 c).Φ (Fin.last cfg0.N) ⊢ iprop(keep s m c ∗ Pipeline.ownSems0 osem c ∗ Pipeline.scopedRest cfg0.spec c) := by
  rw [show (dats s m 0 c).Φ (Fin.last cfg0.N) = Φ₁ s m c from rfl, scopedRest0_eq]
  unfold Φ₁ keep
  iintro ⟨HW, Hx, Hout, Hr⟩
  ihave Hz := ((Wt_end (F := F) c).trans (Entails.of_eq (sems_eq c))) $$ HW
  icases Hz with ⟨Hus, Hos⟩
  isplitl [Hus Hx Hout]
  · isplitl [Hus]; · iexact Hus
    isplitl [Hx] <;> iassumption
  isplitl [Hos] <;> iassumption

omit [FloatOps F] in
theorem stage_waits (c : Dev nD) : (levAts L lv : sProp 𝕄) ⊢ Pipeline.cellsWaits cfgs (dats s m) () 0 c :=
  Pipeline.cellsWaits_intro cfgs (dats s m) () 0 c fun w k t => by
    have hl : ∀ d : Fin 30, d.val < 21 → lvs (.dma 0) < lvs (csem d) := by decide
    have h : ∀ n, (levAts L lv : sProp 𝕄) ⊢ MayWait (c : Thread nD τ) (.dma (((cfgs 0).win w).sem k)) () (Ow s c n) := fun n =>
      mayWait s c n _ (fun d _ hd => by fin_cases w; fin_cases k; exact hl d hd)
    rcases t with ⟨_ | _, ht⟩
    · exact h 0
    · have := h 21; rw [Ow_end] at this; exact this

/-- What a final state is: the result, the arguments. -/
def Final (r : MemSt nD τ sig (Elt F)) : Prop := ∀ c : Dev nD,
  r.mem ((c : Thread nD τ).loc main_v1) = outF s m c ∧ r.mem ((c : Thread nD τ).loc main_arg0) = m ((c : Thread nD τ).loc main_arg0)
    ∧ r.mem ((c : Thread nD τ).loc main_arg1) = m ((c : Thread nD τ).loc main_arg1)

set_option maxRecDepth 8000 in
/-- Every execution of `main` from a memory whose `pi` names device `c + s` at word `c` terminates with each device's result the
    block of the device `s` before it, the arguments unchanged and every semaphore at zero. -/
theorem run_main (h : Rotates s m) (g : Dev nD → PrngReg) :
    θ_run defs (onTc (τ := τ) (main (F := F))) ⟨m, fun _ => 0, g⟩ (fun r => Final s m r.2 ∧ r.2.sem = fun _ => 0) :=
  Pipeline.θ_run_region_owing_glob_pf (fun p => (cfgs p).toPCfg) (fun p => (cfgs p).toPCfg_adm) (dats s m) () cellOf_inj (0 : Fin 1)
    winFacts0.to₀ ownSemFacts (Pipeline.PreFacts.none _) EP defs₀ 𝒱₀ m g main
    (hmain := fun _ => rfl)
    (hbody := body_obligation s m h) (hne := block_pos0) (harr := arr_whole0) (hstage := stage_whole0) (hshare := share_eq s m)
    (hdistinct := winFacts0.arr_inj)
    (O₀ := fun e => Ow s e 0) (howed₀ := fun _ => rfl) (howedN := fun _ => rfl)
    (L := L) (lv := lv) (hL := L_of_ne) (hwaits := stage_waits s m)
    (G := G s m) (G' := G' s m) (u₀ := u₀)
    (hu₀ := by
      unfold u₀
      iintro Hu
      ihave H := (ownU_pair _ _) $$ Hu
      icases H with ⟨HP, HX⟩
      imod (fund_all s m) $$ HX with HG
      imodintro
      isplitl [HP] <;> iassumption)
    (hglob := glob s m)
    (hA := fun _ _ => rfl) (hpf := fun _ k => k.elim0)
    (X := start s m) (Y := keep s m) (Z := fun _ => iprop(emp))
    (hX := start_intro s m g) (hin := phi0_intro s m) (hout := phi1_exit s m)
    (QY := fun c r => (∀ sm : SemLoc sig, sm.isScoped .tc = false → r.sem ((c.tc : Thread nD τ), sm) = 0)
      ∧ r.mem ((c : Thread nD τ).loc main_arg0) = X m c ∧ r.mem ((c : Thread nD τ).loc main_v1) = outF s m c)
    (hY := fun c s' => by
      unfold keep
      iintro ⟨⟨Hu, Hx, Hout⟩, -, HSI⟩
      icombine HSI Hx gives %hx
      icombine HSI Hout gives %ho
      imod (Pipeline.unscopedSems0_read (X := unscopedSems0 c) (c := c) fupd_intro s') $$ [Hu HSI] with ⟨%hz, HSI⟩
      · isplitl [Hu] <;> iassumption
      imodintro
      isplitr
      · ipureintro
        exact ⟨hz, funext fun i => hx i (Finset.mem_univ i), funext fun i => ho i (Finset.mem_univ i)⟩
      iexact HSI)
    (hQ := fun _ h hs => ⟨fun c => ⟨(h c).2.2.2.2, (h c).2.2.2.1, ((h c).1 (0 : Fin 1)).trans ((dats (F := F) s m 0 c).arrAt_in (0 : Fin 1) rfl _)⟩,
      sem_eq_zero hs fun c => (h c).2.2.1⟩)

end

end Cert.Rotate

end
-- ==== Proof.Reference.lean ====
/-
# The reference

Its run, for any float values, and what it computes where word `i` of `pi` is the number of `i + s`: row `e` of the result
is row `e - s` of the input.
-/
module

public import proofs.«01_k».proof.Proof.Devices
public import proofs.«01_k».proof.Proof.Gen.ReferenceIdeal
public import Idealize.ShloMosaic.Lib.StableHlo.Run
public import Idealize.ShloMosaic.Lib.SortFacts

@[expose] public section

noncomputable section

namespace Cert.Rotate.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of the program, in order. -/
abbrev ops : List (HloOp τ sig (Elt F)) :=
  [ nullary main_call0_v0 (iotaInDim S32 32 0),
    binary main_arg1 main_call0_v0 main_call0_v1_0 (fun x y => (Host.sort2 S32 0 comparator_i32_i32_d0 x y).1),
    binary main_arg1 main_call0_v0 main_v0 (fun x y => (Host.sort2 S32 0 comparator_i32_i32_d0 x y).2),
    nullary main_c (constantI S_ 32 0#32),
    unary main_c main_v1 (broadcastInDim S32 ![] bcast_S_S32),
    binary main_v0 main_v1 main_v2 (cmpi .slt),
    nullary main_c_0 (constantI S_ 32 32#32),
    unary main_c_0 main_v3 (broadcastInDim S32 ![] bcast_S_S32),
    binary main_v0 main_v3 main_v4 addi,
    ternary main_v2 main_v4 main_v0 main_v5 select,
    unary main_v5 main_v6 (broadcastInDim S32x1 ![0] bcast_S32_S32x1_0),
    binary main_arg0 main_v6 main_v7 (fun x i => Host.gather gather_S32x2048x1024_S32x1_S32x2048x1024_12_0_n_n_0_1_120481024 x i) ]

theorem main_eq (c : Dev nD) : main (F := F) c = seq ops := rfl

/-- Where each of `pi`'s words stands in order. -/
abbrev order (p : IVec S32 32) : IVec S32 32 := (Host.sort2 S32 0 comparator_i32_i32_d0 p (iotaInDim S32 32 0)).2

/-- The result of the input `x` and of `p`. -/
def result (x : FVec F S32x2048x1024 .f32) (p : IVec S32 32) : FVec F S32x2048x1024 .f32 :=
  Host.gather gather_S32x2048x1024_S32x1_S32x2048x1024_12_0_n_n_0_1_120481024 x
    (broadcastInDim S32x1 ![0] bcast_S32_S32x1_0
      (select (cmpi .slt (order p) (broadcastInDim S32 ![] bcast_S_S32 (constantI S_ 32 0#32)))
        (addi (order p) (broadcastInDim S32 ![] bcast_S_S32 (constantI S_ 32 32#32))) (order p)))

theorem out_eq (V : Valuation τ sig (Elt F)) :
    after ops V (main_v7 : DevRef τ sig) = result (V (main_arg0 : DevRef τ sig)) (V (main_arg1 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- Every execution ends with the result, and the arguments as they were. -/
theorem run_main (m : (ℓ : Loc nD τ sig) → Buf (Elt F) ℓ) (g : Dev nD → PrngReg) :
    θ_run defs (onTc (τ := τ) (main (F := F))) ⟨m, fun _ => 0, g⟩ fun r => ∀ c : Dev nD,
      r.2.mem ((c.tc : Thread nD τ).loc main_v7) = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v7).trans (out_eq _), (h c main_arg0).trans (arg0_eq _), (h c main_arg1).trans (arg1_eq _)⟩)
    (run_seq no_scoped_refs no_scoped_sems defs main (fun _ => ops) main_eq (fun _ => ops_sub) m g)

/-- The program has no semaphore. -/
theorem no_sems {α : Type} [Zero α] (f : GSem nD τ sig → α) : f = fun _ => 0 := funext fun x => by
  obtain ⟨_, sm⟩ := x
  cases sm with
  | reg r => exact r.elim0
  | dma q => exact q.elim0

/-! ## What it computes -/

/-- Of numbers rotated by `s`, the one at place `j` of their order stands at `j - s`. -/
theorem places : ∀ s : Fin 32, sortPositions 32 (fun k k' => decide (k + s < k' + s)) = (List.finRange 32).map (· - s) := by
  decide +kernel

theorem slt_word : ∀ a b : Fin 32, (IntOp.cmpi .slt (word a) (word b) == 1#1) = decide (a < b) := by decide +kernel

theorem sorted (s j : Fin 32) : sortedFrom (fun k k' => IntOp.cmpi .slt (word (k + s)) (word (k' + s)) == 1#1) j = j - s := by
  have h : (fun k k' : Fin 32 => IntOp.cmpi .slt (word (k + s)) (word (k' + s)) == 1#1) = fun k k' => decide (k + s < k' + s) :=
    funext fun k => funext fun k' => slt_word _ _
  rw [h]
  unfold sortedFrom
  simp [places s]

variable (s : Fin 32) (p : IVec S32 32) (hp : ∀ i : Fin 32, p (Shape.Idx.ofFin i) = word (i + s))

include hp in
theorem order_eq (j : Fin 32) : order p (Shape.Idx.ofFin j) = word (j - s) := by
  have hk (k : Fin 32) : p ((Shape.Idx.ofFin j).along (0 : Fin 1) k) = word (k + s) := by
    rw [← hp k]; exact congrArg p (Shape.Idx.along_rank1 _ k)
  have hb : (fun k k' : Fin 32 => IntOp.cmpi .slt (p ((Shape.Idx.ofFin j).along (0 : Fin 1) k)) (p ((Shape.Idx.ofFin j).along (0 : Fin 1) k')) == 1#1)
      = fun k k' => IntOp.cmpi .slt (word (k + s)) (word (k' + s)) == 1#1 := funext fun k => funext fun k' => by rw [hk, hk]
  have hq : order p (Shape.Idx.ofFin j)
      = iotaInDim S32 32 0 ((Shape.Idx.ofFin j).along (0 : Fin 1)
          (sortedFrom (fun k k' : Fin 32 => IntOp.cmpi .slt (p ((Shape.Idx.ofFin j).along (0 : Fin 1) k)) (p ((Shape.Idx.ofFin j).along (0 : Fin 1) k')) == 1#1) j)) := rfl
  rw [hq, hb]
  exact (congrArg (fun k : Fin 32 => iotaInDim S32 32 0 ((Shape.Idx.ofFin j).along (0 : Fin 1) k)) (sorted s j)).trans
    (congrArg (iotaInDim S32 32 0) (Shape.Idx.along_rank1 (n := 32) _ (j - s)))

/-- A number below 32 is not wrapped. -/
theorem not_wrapped : ∀ t : Fin 32,
    (if IntOp.cmpi .slt (word t) 0#32 = 1#1 then IntOp.addi (word t) 32#32 else word t) = word t := by decide +kernel

/-- A start index in range is not clamped. -/
theorem not_clamped : ∀ t : Fin 32, min (word t).toInt.toNat (32 - 1) = t.val := by decide +kernel

/-- Row `i 0` of the input moved to row `t`. -/
def at_row (t : Fin 32) (i : S32x2048x1024.Idx) : S32x2048x1024.Idx := fun a => match a with
  | ⟨0, _⟩ => t
  | ⟨1, _⟩ => i 1
  | ⟨2, _⟩ => i 2

/-- The gather's dimension numbers. -/
abbrev dims := gather_S32x2048x1024_S32x1_S32x2048x1024_12_0_n_n_0_1_120481024

theorem batch0 (i : S32x2048x1024.Idx) (a : Fin 3) : dims.batchCoord i a = 0 := dims.batchCoord_eq_zero i a List.not_mem_nil
theorem off0 (i : S32x2048x1024.Idx) : dims.offCoord i (0 : Fin 3) = 0 :=
  dims.offCoord_eq_zero i 0 (fun h => ((dims.mem_sKept 0).1 h).1 (List.mem_singleton_self _))
theorem off1 (i : S32x2048x1024.Idx) : dims.offCoord i (1 : Fin 3) = (i 1).val := by
  unfold GatherDims.offCoord; rw [dif_pos (by decide)]; rfl
theorem off2 (i : S32x2048x1024.Idx) : dims.offCoord i (2 : Fin 3) = (i 2).val := by
  unfold GatherDims.offCoord; rw [dif_pos (by decide)]; rfl
theorem start_zero (i : S32x2048x1024.Idx) (v : IVec S32x1 32) (a : Fin 3) (h : a ≠ 0) : dims.start i v a = 0 := by
  unfold GatherDims.start; rw [dif_neg (by revert a; decide)]
theorem start0 (i : S32x2048x1024.Idx) (v : IVec S32 32) :
    dims.start i (broadcastInDim S32x1 ![0] bcast_S32_S32x1_0 v) (0 : Fin 3) = min (v (Shape.Idx.ofFin (i 0))).toInt.toNat (32 - 1) := by
  unfold GatherDims.start; rw [dif_pos (by decide)]
  have h : ∀ k, broadcastInDim S32x1 ![0] bcast_S32_S32x1_0 v (dims.siIdx i k) = v (Shape.Idx.ofFin (i 0)) := fun k => by
    refine congrArg v (funext fun a => ?_)
    match a with
    | ⟨0, _⟩ => rfl
  rw [h]
  rfl

theorem start_row (i : S32x2048x1024.Idx) (v : IVec S32 32) (t : Fin 32) (h : v (Shape.Idx.ofFin (i 0)) = word t) :
    dims.start i (broadcastInDim S32x1 ![0] bcast_S32_S32x1_0 v) (0 : Fin 3) = t.val := by
  rw [start0, h]; exact not_clamped t

/-- The start indices. -/
abbrev starts : IVec S32 32 :=
  select (cmpi .slt (order p) (broadcastInDim S32 ![] bcast_S_S32 (constantI S_ 32 0#32)))
    (addi (order p) (broadcastInDim S32 ![] bcast_S_S32 (constantI S_ 32 32#32))) (order p)

include hp in
theorem starts_eq (j : Fin 32) : starts p (Shape.Idx.ofFin j) = word (j - s) := by
  have h : starts p (Shape.Idx.ofFin j) = (fun w : BitVec 32 => if IntOp.cmpi .slt w 0#32 = 1#1 then IntOp.addi w 32#32 else w) (order p (Shape.Idx.ofFin j)) := rfl
  rw [h, order_eq s p hp]
  exact not_wrapped _

include hp in
theorem result_apply (x : FVec F S32x2048x1024 .f32) (i : S32x2048x1024.Idx) : result x p i = x (at_row ((show Fin 32 from i 0) - s) i) := by
  unfold result Host.gather
  refine congrArg x (funext fun a => Fin.ext ?_)
  unfold GatherDims.operandIdx
  match a with
  | ⟨0, _⟩ =>
    show dims.start i _ (0 : Fin 3) + dims.batchCoord i (0 : Fin 3) + dims.offCoord i (0 : Fin 3) = ((show Fin 32 from i 0) - s).val
    rw [batch0, off0, start_row i (starts p) ((show Fin 32 from i 0) - s) (starts_eq s p hp _)]
    rfl
  | ⟨1, _⟩ =>
    show dims.start i _ (1 : Fin 3) + dims.batchCoord i (1 : Fin 3) + dims.offCoord i (1 : Fin 3) = (i 1).val
    rw [batch0, off1, start_zero _ _ _ (by decide)]; omega
  | ⟨2, _⟩ =>
    show dims.start i _ (2 : Fin 3) + dims.batchCoord i (2 : Fin 3) + dims.offCoord i (2 : Fin 3) = (i 2).val
    rw [batch0, off2, start_zero _ _ _ (by decide)]; omega

end Cert.Rotate.Ref

end
-- ==== Proof.Value.lean ====
/-
# The value

What the kernel leaves is what the reference computes, block by block; and what the precondition says of `pi`.
-/
module

public import proofs.«01_k».proof.Proof.Run
public import proofs.«01_k».proof.Proof.Reference
public import Idealize.ShloMosaic.Lib.Layout

@[expose] public section

noncomputable section

namespace Cert.Rotate

open Cert.KernelIdeal Cert.KernelIdeal.Gen
open Idealize.ShloMosaic Idealize.ShloMosaic.TcCoe Idealize.SL.Sem

variable {F : FTy → Type} [FloatOps F]

/-- A word equal to the remainder by 32 of `i + s` is the word of `i + s` around the ring. -/
theorem word_of_rem (s i : Fin 32) (w : BitVec 32)
    (h : IntOp.cmpi .eq w (IntOp.remsi .host (IntOp.addi (word i) (word s)) 32#32) = 1#1) : w = word (i + s) := by
  have hr : ∀ i s : Fin 32, IntOp.remsi .host (IntOp.addi (word i) (word s)) 32#32 = word (i + s) := by decide +kernel
  have hb : ∀ b : Bool, BitVec.ofBool b = 1#1 → b = true := by decide
  rw [hr] at h
  exact eq_of_beq (hb _ h)

/-- `pi` names `i + s` at word `i`. -/
def Names (s : Fin 32) (p : IVec S32 32) : Prop := ∀ i : Fin 32, p (Shape.Idx.ofFin i) = word (i + s)

/-- A `pi` whose word `i` is the remainder by 32 of `i + w`, for every `i`, names `i + w`. -/
theorem names_of_rem (w : BitVec 32) (hw : w.toNat < 32) (p : IVec S32 32)
    (h : ∀ i : Fin 32, IntOp.cmpi .eq (p (Shape.Idx.ofFin i)) (IntOp.remsi .host (IntOp.addi (word i) w) 32#32) = 1#1) :
    Names ⟨w.toNat, hw⟩ p := fun i => by
  have e : word ⟨w.toNat, hw⟩ = w := BitVec.eq_of_toNat_eq (by simp; omega)
  exact word_of_rem _ i _ (by rw [e]; exact h i)

variable (s : Fin 32) (m : (ℓ : Loc nD τ sig) → Buf (Elt F) ℓ)

omit [FloatOps F] in
/-- The same on each device. -/
theorem names_everywhere {w : BitVec 32} (hw : w.toNat < 32)
    (h : ∀ (c : Dev nD) (i : Fin 32), IntOp.cmpi .eq (m ((c.tc : Thread nD τ).loc main_arg1) (Shape.Idx.ofFin i))
      (IntOp.remsi .host (IntOp.addi (word i) w) 32#32) = 1#1) (c : Dev nD) :
    Names ⟨w.toNat, hw⟩ (m ((c.tc : Thread nD τ).loc main_arg1)) := names_of_rem w hw _ (h c)

omit [FloatOps F] in
theorem rotates_of_names (h : ∀ c : Dev nD, Names s (m ((c : Thread nD τ).loc main_arg1))) : Rotates s m := fun c i hi => by
  have e : i = Shape.Idx.ofFin (show Fin 32 from c) := by
    rw [Shape.Idx.eq_ofFin i]; exact congrArg Shape.Idx.ofFin (Fin.ext hi)
  rw [e]; exact h c _

/-- The frame. -/
theorem frame (h : ∀ c : Dev nD, Names s (m ((c : Thread nD τ).loc main_arg1))) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ hr => ⟨fun c => (hr.1 c).2, hr.2⟩) (run_main s m (rotates_of_names s m h) g)

abbrev S32x2048x1024 : Shape := ⟨3, ![32, 2048, 1024]⟩

/-- An index of device `c`'s block has row `c` of the whole. -/
theorem row_of_block (h : Layout.Tiles S1x2048x1024 S32x2048x1024 0 32) (c t : Fin 32) (i : S1x2048x1024.Idx) :
    Ref.at_row t (h.idx c i) = h.idx t i := by
  funext a
  have h0 : (i 0).val = 0 := Nat.lt_one_iff.mp (i 0).isLt
  refine Fin.ext ?_
  match a with
  | ⟨0, _⟩ => show t.val = t.val * 1 + (i 0).val; omega
  | ⟨1, _⟩ => rfl
  | ⟨2, _⟩ => rfl

theorem row_index (h : Layout.Tiles S1x2048x1024 S32x2048x1024 0 32) (c : Fin 32) (i : S1x2048x1024.Idx) :
    (show Fin 32 from h.idx c i 0) = c := by
  have h0 : (i 0).val = 0 := Nat.lt_one_iff.mp (i 0).isLt
  refine Fin.ext ?_
  show c.val * 1 + (i 0).val = c.val
  omega

/-- Where each device's input is its block of `x`, its result is its block of the reference's. -/
theorem value (x : S32x2048x1024.Idx → Elt F .f32) (p : IVec S32 32) (hp : Names s p)
    (hx : ∀ c : Dev nD, m ((c : Thread nD τ).loc main_arg0) = Layout.block S1x2048x1024 S32x2048x1024 0 32 c x) (c : Dev nD) :
    outF s m c = Layout.block S1x2048x1024 S32x2048x1024 0 32 c (Ref.result x p) := by
  unfold outF X
  rw [hx]
  funext i
  rw [Layout.block_apply, Layout.block_apply, Ref.result_apply s p hp, row_index, row_of_block]

/-- The two runs, of the kernel and of the reference. -/
theorem both (g : Dev nD → PrngReg) (m' : (ℓ : Loc Cert.ReferenceIdeal.nD Cert.ReferenceIdeal.τ Cert.ReferenceIdeal.sig) → Buf (Elt F) ℓ)
    (g' : Dev Cert.ReferenceIdeal.nD → PrngReg) (h : ∀ c : Dev nD, Names s (m ((c : Thread nD τ).loc main_arg1)))
    (hm : ∀ c : Dev nD,
      m ((c.tc : Thread nD τ).loc main_arg0) = Layout.block S1x2048x1024 S32x2048x1024 0 32 c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ (v0 : Buf (Elt F) (((0 : Dev Cert.ReferenceIdeal.nD).tc : Thread Cert.ReferenceIdeal.nD Cert.ReferenceIdeal.τ).loc Cert.ReferenceIdeal.main_v7)),
      θ_run defs (onTc (τ := τ) (main (F := F))) ⟨m, fun _ => 0, g⟩ (fun r => ∀ c : Dev nD,
          r.2.mem ((c.tc : Thread nD τ).loc main_v1) = Layout.block S1x2048x1024 S32x2048x1024 0 32 c v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run Cert.ReferenceIdeal.defs (onTc (τ := Cert.ReferenceIdeal.τ) (Cert.ReferenceIdeal.main (F := F))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hp : Names s (m' (((0 : Dev Cert.ReferenceIdeal.nD).tc : Thread Cert.ReferenceIdeal.nD Cert.ReferenceIdeal.τ).loc Cert.ReferenceIdeal.main_arg1)) :=
    (hm 0).2 ▸ h 0
  exact ⟨_, (θ_run defs _ _).mono (fun _ hr c => ⟨(hr.1 c).1.trans (value s m _ _ hp (fun c => (hm c).1) c), (hr.1 c).2⟩)
      (run_main s m (rotates_of_names s m h) g),
    (θ_run Cert.ReferenceIdeal.defs _ _).mono (fun _ hr => hr 0) (Ref.run_main m' g')⟩

end Cert.Rotate

end
-- ==== Proof.lean ====
module

public import proofs.«01_k».proof.Defs
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- The reference's frame. -/
theorem frame_reference : Cert.quiescent_ReferenceIdeal := fun m g _ =>
  (θ_run Cert.ReferenceIdeal.defs _ _).mono (fun r hr => ⟨fun c => (hr c).2, Rotate.Ref.no_sems r.2.sem⟩) (Rotate.Ref.run_main (F := Ideal) m g)

/-- The two programs have one body, so the procedures they call are the same. -/
theorem defs₀_same : Cert.Kernel.defs₀ (F := Bits) = Cert.KernelIdeal.defs₀ := by
  unfold Cert.Kernel.defs₀ Cert.KernelIdeal.defs₀
  refine congrArg (fun f => Defs.onTc (Λ := Cert.Kernel.Λ₀) f) ?_
  funext l a
  match l, a with
  | 0, (_, _) =>
    dsimp only
    rfl

theorem defs_same : Cert.Kernel.defs (F := Bits) = Cert.KernelIdeal.defs :=
  congrArg (Pipeline.defs (Cert.Kernel.pcfgs (F := Bits))) defs₀_same

/-- What holds of every run of the one program holds of every run of the other. -/
theorem run_same {w Q}
    (h : θ_run (Cert.KernelIdeal.defs (F := Bits)) (onTc (τ := Cert.KernelIdeal.τ) (Cert.KernelIdeal.main (F := Bits))) w Q) :
    θ_run (Cert.Kernel.defs (F := Bits)) (onTc (τ := Cert.Kernel.τ) (Cert.Kernel.main (F := Bits))) w Q := by
  rw [defs_same]
  exact h

set_option maxHeartbeats 4000000 in
/-- The claims in their order: the side conditions of the programs and of the 64 printed preconditions, the reference's
frames, the kernel's, the idealized kernel's, `preserves`, and the values. Each of the 32 rotations takes the same theorem,
whose shift is the word that its precondition adds. -/
theorem claim : Cert.Claim := by
  refine ⟨Cert.ReferenceIdeal.Gen.facts, Cert.Kernel.Gen.facts, Cert.KernelIdeal.Gen.facts, ?_⟩
  iterate 64 refine ⟨⟨by decide⟩, ?_⟩
  refine ⟨frame_reference, ?_⟩
  iterate 32 refine ⟨fun m g _ => frame_reference m g trivial, ?_⟩
  iterate 32
    refine ⟨fun m g h => run_same (Rotate.frame _ (F := Bits) m
      (Rotate.names_everywhere m (by decide) fun c i => congrFun (h c) (Shape.Idx.ofFin i)) g), ?_⟩
  iterate 32
    refine ⟨fun m g h => Rotate.frame _ (F := Ideal) m
      (Rotate.names_everywhere m (by decide) fun c i => congrFun (h c) (Shape.Idx.ofFin i)) g, ?_⟩
  refine ⟨trivial, ?_⟩
  iterate 31
    refine ⟨fun m g m' g' h hm => Rotate.both _ (F := Ideal) m g m' g'
      (Rotate.names_everywhere m (by decide) fun c i => congrFun (h c) (Shape.Idx.ofFin i)) hm, ?_⟩
  exact fun m g m' g' h hm => Rotate.both _ (F := Ideal) m g m' g'
    (Rotate.names_everywhere m (by decide) fun c i => congrFun (h c) (Shape.Idx.ofFin i)) hm

end Cert.Proof

end
